-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg" .bf16 0xF14A#16 ⊥
  ∧ IdealRules.named_const.Statement Cert.KernelIdeal.κ "neg" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x2048 : Shape := ⟨3, ![1, 2048, 2048]⟩
abbrev S2048x2048 : Shape := ⟨2, ![2048, 2048]⟩
abbrev S16x512x256 : Shape := ⟨3, ![16, 512, 256]⟩
abbrev S16x256x128 : Shape := ⟨3, ![16, 256, 128]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S1x2048x2048 .f32) (main_arg1 : FVec F S2048x2048 .f32) (main_arg2 : FVec F S2048x2048 .f32) (main_arg3 : FVec F S2048x2048 .f32) (main_arg4 : FVec F S2048x2048 .f32) (main_arg5 : FVec F S16x512x256 .f32) (main_arg6 : FVec F S16x256x128 .f32) (main_arg7 : FVec F S_ .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S1x2048x2048 : Shape := ⟨3, ![1, 2048, 2048]⟩
abbrev S2048x2048 : Shape := ⟨2, ![2048, 2048]⟩
abbrev S16x512x256 : Shape := ⟨3, ![16, 512, 256]⟩
abbrev S16x256x128 : Shape := ⟨3, ![16, 256, 128]⟩
abbrev S_ : Shape := ⟨0, ![]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x128 : Shape := ⟨3, ![1, 2048, 128]⟩
abbrev S3x2048x128 : Shape := ⟨3, ![3, 2048, 128]⟩
abbrev S1 : Shape := ⟨1, ![1]⟩
abbrev S3x2048x2048 : Shape := ⟨3, ![3, 2048, 2048]⟩
abbrev S256x2048 : Shape := ⟨2, ![256, 2048]⟩
abbrev S1x256x128 : Shape := ⟨3, ![1, 256, 128]⟩
abbrev S1x256x2048 : Shape := ⟨3, ![1, 256, 2048]⟩
abbrev S256x128 : Shape := ⟨2, ![256, 128]⟩
abbrev S256x1x128 : Shape := ⟨3, ![256, 1, 128]⟩
abbrev S256x16x128 : Shape := ⟨3, ![256, 16, 128]⟩
abbrev S256x16x64 : Shape := ⟨3, ![256, 16, 64]⟩
abbrev S16x2048x512 : Shape := ⟨3, ![16, 2048, 512]⟩
abbrev S1x512x128 : Shape := ⟨3, ![1, 512, 128]⟩
abbrev S1x512x512 : Shape := ⟨3, ![1, 512, 512]⟩
abbrev S2048x384 : Shape := ⟨2, ![2048, 384]⟩
abbrev S1x128 : Shape := ⟨2, ![1, 128]⟩
abbrev S2047x128 : Shape := ⟨2, ![2047, 128]⟩
abbrev S2x128 : Shape := ⟨2, ![2, 128]⟩
abbrev S2046x128 : Shape := ⟨2, ![2046, 128]⟩
abbrev S4x128 : Shape := ⟨2, ![4, 128]⟩
abbrev S2044x128 : Shape := ⟨2, ![2044, 128]⟩
abbrev S8x128 : Shape := ⟨2, ![8, 128]⟩
abbrev S2040x128 : Shape := ⟨2, ![2040, 128]⟩
abbrev S16x128 : Shape := ⟨2, ![16, 128]⟩
abbrev S2032x128 : Shape := ⟨2, ![2032, 128]⟩
abbrev S32x128 : Shape := ⟨2, ![32, 128]⟩
abbrev S2016x128 : Shape := ⟨2, ![2016, 128]⟩
abbrev S64x128 : Shape := ⟨2, ![64, 128]⟩
abbrev S1984x128 : Shape := ⟨2, ![1984, 128]⟩
abbrev S128x128 : Shape := ⟨2, ![128, 128]⟩
abbrev S1920x128 : Shape := ⟨2, ![1920, 128]⟩
abbrev S1792x128 : Shape := ⟨2, ![1792, 128]⟩
abbrev S512x128 : Shape := ⟨2, ![512, 128]⟩
abbrev S1536x128 : Shape := ⟨2, ![1536, 128]⟩
abbrev S1024x128 : Shape := ⟨2, ![1024, 128]⟩
abbrev S512x512 : Shape := ⟨2, ![512, 512]⟩
abbrev S512x384 : Shape := ⟨2, ![512, 384]⟩
abbrev S512x1 : Shape := ⟨2, ![512, 1]⟩
abbrev S512x1024 : Shape := ⟨2, ![512, 1024]⟩
abbrev S1024x384 : Shape := ⟨2, ![1024, 384]⟩
abbrev S512x1536 : Shape := ⟨2, ![512, 1536]⟩
abbrev S1536x384 : Shape := ⟨2, ![1536, 384]⟩
abbrev S512x2048 : Shape := ⟨2, ![512, 2048]⟩
abbrev S16x256x512 : Shape := ⟨3, ![16, 256, 512]⟩
abbrev S1x256x512 : Shape := ⟨3, ![1, 256, 512]⟩
abbrev S256x512 : Shape := ⟨2, ![256, 512]⟩
abbrev S1x512x256 : Shape := ⟨3, ![1, 512, 256]⟩
abbrev S512x256 : Shape := ⟨2, ![512, 256]⟩
abbrev S256x256 : Shape := ⟨2, ![256, 256]⟩

abbrev nBuf : Space → Nat
  | .hbm => 44
  | .vmem => 31
  | .smem => 1
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S16x512x256, .f32⟩
  | .hbm, ⟨6, _⟩ => ⟨S16x256x128, .f32⟩
  | .hbm, ⟨7, _⟩ => ⟨S_, .f32⟩
  | .hbm, ⟨8, _⟩ => ⟨S64, .f32⟩
  | .hbm, ⟨9, _⟩ => ⟨S2048x2048, .f32⟩
  | .hbm, ⟨10, _⟩ => ⟨S2048, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048x128, .f32⟩
  | .hbm, ⟨25, _⟩ => ⟨S_, .f32⟩
  | .hbm, ⟨26, _⟩ => ⟨S2048x128, .f32⟩
  | .hbm, ⟨27, _⟩ => ⟨S2048x128, .f32⟩
  | .hbm, ⟨28, _⟩ => ⟨S2048x128, .f32⟩
  | .hbm, ⟨29, _⟩ => ⟨S1x2048x128, .f32⟩
  | .hbm, ⟨30, _⟩ => ⟨S1x2048x128, .f32⟩
  | .hbm, ⟨31, _⟩ => ⟨S1x2048x128, .f32⟩
  | .hbm, ⟨32, _⟩ => ⟨S3x2048x128, .f32⟩
  | .hbm, ⟨33, _⟩ => ⟨S2048x128, .f32⟩
  | .hbm, ⟨34, _⟩ => ⟨S2048x128, .f32⟩
  | .hbm, ⟨35, _⟩ => ⟨S1x2048x128, .f32⟩
  | .hbm, ⟨36, _⟩ => ⟨S1x2048x128, .f32⟩
  | .hbm, ⟨37, _⟩ => ⟨S1x2048x128, .f32⟩
  | .hbm, ⟨38, _⟩ => ⟨S3x2048x128, .f32⟩
  | .hbm, ⟨39, _⟩ => ⟨S1, .f32⟩
  | .hbm, ⟨40, _⟩ => ⟨S3x2048x2048, .bf16⟩
  | .hbm, ⟨41, _⟩ => ⟨S16x2048x512, .bf16⟩
  | .hbm, ⟨42, _⟩ => ⟨S2048x2048, .f32⟩
  | .hbm, ⟨43, _⟩ => ⟨S1x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S2048x2048, .f32⟩
  | .local _ .vmem, ⟨4, _⟩ => ⟨S2048x2048, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x2048, .bf16⟩
  | .local _ .vmem, ⟨10, _⟩ => ⟨S1x256x2048, .bf16⟩
  | .local _ .vmem, ⟨11, _⟩ => ⟨S1x512x128, .bf16⟩
  | .local _ .vmem, ⟨12, _⟩ => ⟨S1x512x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x512x512, .bf16⟩
  | .local _ .vmem, ⟨18, _⟩ => ⟨S1x512x512, .bf16⟩
  | .local _ .vmem, ⟨19, _⟩ => ⟨S2048x384, .bf16⟩
  | .local _ .vmem, ⟨20, _⟩ => ⟨S2048x128, .bf16⟩
  | .local _ .vmem, ⟨21, _⟩ => ⟨S16x256x512, .bf16⟩
  | .local _ .vmem, ⟨22, _⟩ => ⟨S16x256x512, .bf16⟩
  | .local _ .vmem, ⟨23, _⟩ => ⟨S16x512x256, .f32⟩
  | .local _ .vmem, ⟨24, _⟩ => ⟨S16x256x128, .f32⟩
  | .local _ .vmem, ⟨25, _⟩ => ⟨S2048x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .bf16⟩
  | .local _ .smem, ⟨0, _⟩ => ⟨S1, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc2_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_7 : BitVec 32 := 0#32
  let v11 : BitVec 1 := Scalar.cmpi .ne v10 c0_i32_7
  v11

def k0_cond2 (i : grid0.Coords) : BitVec 1 :=
  let arg0 : BitVec 32 := BitVec.ofNat 32 (i 0).val
  let c1_i32 : BitVec 32 := 1#32
  let v12 : BitVec 1 := Scalar.cmpi .eq arg0 c1_i32
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c2_i32 : BitVec 32 := 2#32
  let v15 : BitVec 1 := Scalar.cmpi .eq arg0 c2_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 4], ![false, false]⟩

def k1_cond2 (i : grid1.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k1_cond3 (i : grid1.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_6 : BitVec 32 := 0#32
  let v16 : BitVec 1 := Scalar.cmpi .ne v15 c0_i32_6
  v16

def k1_cond4 (i : grid1.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_7 : BitVec 32 := 0#32
  let v19 : BitVec 1 := Scalar.cmpi .ne v18 c0_i32_7
  v19

def k1_cond5 (i : grid1.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_8 : BitVec 32 := 0#32
  let v22 : BitVec 1 := Scalar.cmpi .ne v21 c0_i32_8
  v22

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .smem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "neg" => some ⊥
  | _ => none
-- ==== ReferenceIdeal.lean ====
abbrev S1x2048x2048 : Shape := ⟨3, ![1, 2048, 2048]⟩
abbrev S2048x2048 : Shape := ⟨2, ![2048, 2048]⟩
abbrev S16x512x256 : Shape := ⟨3, ![16, 512, 256]⟩
abbrev S16x256x128 : Shape := ⟨3, ![16, 256, 128]⟩
abbrev S_ : Shape := ⟨0, ![]⟩
abbrev S64 : Shape := ⟨1, ![64]⟩
abbrev S1x2048x16x128 : Shape := ⟨4, ![1, 2048, 16, 128]⟩
abbrev S1x16x2048x128 : Shape := ⟨4, ![1, 16, 2048, 128]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x1x2048x128 : Shape := ⟨4, ![1, 1, 2048, 128]⟩
abbrev S1x16x2048x64 : Shape := ⟨4, ![1, 16, 2048, 64]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x1x2048x2048 : Shape := ⟨4, ![1, 1, 2048, 2048]⟩
abbrev S1x16x1x2048 : Shape := ⟨4, ![1, 16, 1, 2048]⟩
abbrev S1x16x2048x512 : Shape := ⟨4, ![1, 16, 2048, 512]⟩
abbrev S16x256x1x2048 : Shape := ⟨4, ![16, 256, 1, 2048]⟩
abbrev S1x16x2048x256 : Shape := ⟨4, ![1, 16, 2048, 256]⟩
abbrev S16x128x1x2048 : Shape := ⟨4, ![16, 128, 1, 2048]⟩

abbrev nBuf : Space → Nat
  | .hbm => 152
  | .vmem => 0
  | .smem => 0
  | _ => 0

abbrev hbmTy0_0 (i : Nat) : BufTy := match i % 128 with
  | 0 => ⟨S1x2048x2048, .f32⟩
  | 1 => ⟨S2048x2048, .f32⟩
  | 2 => ⟨S2048x2048, .f32⟩
  | 3 => ⟨S2048x2048, .f32⟩
  | 4 => ⟨S2048x2048, .f32⟩
  | 5 => ⟨S16x512x256, .f32⟩
  | 6 => ⟨S16x256x128, .f32⟩
  | 7 => ⟨S_, .f32⟩
  | 8 => ⟨S64, .f32⟩
  | 9 => ⟨S1x2048x2048, .f32⟩
  | 10 => ⟨S1x2048x16x128, .f32⟩
  | 11 => ⟨S1x16x2048x128, .f32⟩
  | 12 => ⟨S1x2048x2048, .f32⟩
  | 13 => ⟨S1x2048x16x128, .f32⟩
  | 14 => ⟨S1x16x2048x128, .f32⟩
  | 15 => ⟨S1x2048x2048, .f32⟩
  | 16 => ⟨S1x2048x16x128, .f32⟩
  | 17 => ⟨S1x16x2048x128, .f32⟩
  | 18 => ⟨S2048, .f32⟩
  | 19 => ⟨S2048x1, .f32⟩
  | 20 => ⟨S1x64, .f32⟩
  | 21 => ⟨S2048x64, .f32⟩
  | 22 => ⟨S2048x64, .f32⟩
  | 23 => ⟨S2048x64, .f32⟩
  | 24 => ⟨S2048x128, .f32⟩
  | 25 => ⟨S2048x128, .f32⟩
  | 26 => ⟨S2048x128, .f32⟩
  | 27 => ⟨S1x1x2048x128, .f32⟩
  | 28 => ⟨S1x16x2048x128, .f32⟩
  | 29 => ⟨S1x16x2048x128, .f32⟩
  | 30 => ⟨S1x16x2048x64, .f32⟩
  | 31 => ⟨S1x16x2048x64, .f32⟩
  | 32 => ⟨S1x16x2048x64, .f32⟩
  | 33 => ⟨S1x16x2048x128, .f32⟩
  | 34 => ⟨S1x1x2048x128, .f32⟩
  | 35 => ⟨S1x16x2048x128, .f32⟩
  | 36 => ⟨S1x16x2048x128, .f32⟩
  | 37 => ⟨S1x16x2048x128, .f32⟩
  | 38 => ⟨S1x1x2048x128, .f32⟩
  | 39 => ⟨S1x16x2048x128, .f32⟩
  | 40 => ⟨S1x16x2048x128, .f32⟩
  | 41 => ⟨S1x16x2048x64, .f32⟩
  | 42 => ⟨S1x16x2048x64, .f32⟩
  | 43 => ⟨S1x16x2048x64, .f32⟩
  | 44 => ⟨S1x16x2048x128, .f32⟩
  | 45 => ⟨S1x1x2048x128, .f32⟩
  | 46 => ⟨S1x16x2048x128, .f32⟩
  | 47 => ⟨S1x16x2048x128, .f32⟩
  | 48 => ⟨S1x16x2048x128, .f32⟩
  | 49 => ⟨S1x16x2048x2048, .f32⟩
  | 50 => ⟨S_, .f32⟩
  | 51 => ⟨S_, .f32⟩
  | 52 => ⟨S1x16x2048x2048, .f32⟩
  | 53 => ⟨S1x16x2048x2048, .f32⟩
  | 54 => ⟨S_, .i1⟩
  | 55 => ⟨S2048x2048, .i1⟩
  | 56 => ⟨S2048x2048, .i32⟩
  | 57 => ⟨S_, .i32⟩
  | 58 => ⟨S2048x2048, .i32⟩
  | 59 => ⟨S2048x2048, .i32⟩
  | 60 => ⟨S2048x2048, .i32⟩
  | 61 => ⟨S2048x2048, .i1⟩
  | 62 => ⟨S_, .i1⟩
  | 63 => ⟨S2048x2048, .i1⟩
  | 64 => ⟨S2048x2048, .i1⟩
  | 65 => ⟨S_, .f32⟩
  | 66 => ⟨S_, .f32⟩
  | 67 => ⟨S1x16x2048x2048, .i1⟩
  | 68 => ⟨S1x16x2048x2048, .f32⟩
  | 69 => ⟨S1x16x2048x2048, .f32⟩
  | 70 => ⟨S_, .f32⟩
  | 71 => ⟨S1x16x2048x2048, .f32⟩
  | 72 => ⟨S1x16x2048x2048, .f32⟩
  | 73 => ⟨S_, .f32⟩
  | 74 => ⟨S1x16x2048, .f32⟩
  | 75 => ⟨S_, .f32⟩
  | 76 => ⟨S1x16x2048, .f32⟩
  | 77 => ⟨S1x16x2048, .f32⟩
  | 78 => ⟨S1x16x2048x1, .f32⟩
  | 79 => ⟨S1x16x2048x2048, .f32⟩
  | 80 => ⟨S1x16x2048x2048, .f32⟩
  | 81 => ⟨S1x16x2048x2048, .f32⟩
  | 82 => ⟨S_, .f32⟩
  | 83 => ⟨S1x16x2048, .f32⟩
  | 84 => ⟨S1x16x2048x1, .f32⟩
  | 85 => ⟨S1x16x2048x2048, .f32⟩
  | 86 => ⟨S1x16x2048x2048, .f32⟩
  | 87 => ⟨S2048x2048, .f32⟩
  | 88 => ⟨S1x1x2048x2048, .f32⟩
  | 89 => ⟨S1x16x2048x2048, .f32⟩
  | 90 => ⟨S1x16x2048x2048, .f32⟩
  | 91 => ⟨S_, .f32⟩
  | 92 => ⟨S1x16x2048, .f32⟩
  | 93 => ⟨S_, .f32⟩
  | 94 => ⟨S1x16x2048, .f32⟩
  | 95 => ⟨S1x16x2048, .i1⟩
  | 96 => ⟨S_, .f32⟩
  | 97 => ⟨S1x16x2048, .f32⟩
  | 98 => ⟨S1x16x2048, .f32⟩
  | 99 => ⟨S1x16x2048, .f32⟩
  | 100 => ⟨S_, .f32⟩
  | 101 => ⟨S_, .f32⟩
  | 102 => ⟨S1x16x2048, .f32⟩
  | 103 => ⟨S1x16x2048, .f32⟩
  | 104 => ⟨S1x16x2048x1, .f32⟩
  | 105 => ⟨S1x16x2048x2048, .f32⟩
  | 106 => ⟨S1x16x2048x2048, .f32⟩
  | 107 => ⟨S1x16x1x2048, .f32⟩
  | 108 => ⟨S1x16x2048x2048, .f32⟩
  | 109 => ⟨S1x16x2048x2048, .f32⟩
  | 110 => ⟨S2048x2048, .f32⟩
  | 111 => ⟨S1x1x2048x2048, .f32⟩
  | 112 => ⟨S1x16x2048x2048, .f32⟩
  | 113 => ⟨S1x16x2048x2048, .f32⟩
  | 114 => ⟨S_, .f32⟩
  | 115 => ⟨S1x16x2048, .f32⟩
  | 116 => ⟨S1x16x2048x1, .f32⟩
  | 117 => ⟨S_, .f32⟩
  | 118 => ⟨S1x16x2048x1, .f32⟩
  | 119 => ⟨S1x16x2048x1, .f32⟩
  | 120 => ⟨S1x16x2048x128, .f32⟩
  | 121 => ⟨S1x16x2048x128, .f32⟩
  | 122 => ⟨S1x16x2048x128, .f32⟩
  | 123 => ⟨S1x16x2048x128, .f32⟩
  | 124 => ⟨S1x16x2048x128, .f32⟩
  | 125 => ⟨S1x16x2048x128, .f32⟩
  | 126 => ⟨S1x16x2048x128, .f32⟩
  | 127 => ⟨S1x16x2048x128, .f32⟩
  | _ => ⟨S1x2048x2048, .f32⟩

abbrev hbmTy0_1 (i : Nat) : BufTy := match i % 128 with
  | 0 => ⟨S1x16x2048x128, .f32⟩
  | 1 => ⟨S_, .f32⟩
  | 2 => ⟨S_, .f32⟩
  | 3 => ⟨S1x16x2048x128, .f32⟩
  | 4 => ⟨S1x16x2048x512, .f32⟩
  | 5 => ⟨S16x256x1x2048, .f32⟩
  | 6 => ⟨S1x16x2048x256, .f32⟩
  | 7 => ⟨S1x16x2048x256, .f32⟩
  | 8 => ⟨S1x16x2048x256, .f32⟩
  | 9 => ⟨S_, .f32⟩
  | 10 => ⟨S1x16x2048x256, .f32⟩
  | 11 => ⟨S1x16x2048x256, .f32⟩
  | 12 => ⟨S_, .f32⟩
  | 13 => ⟨S1x16x2048x256, .f32⟩
  | 14 => ⟨S1x16x2048x256, .f32⟩
  | 15 => ⟨S1x16x2048x256, .f32⟩
  | 16 => ⟨S16x128x1x2048, .f32⟩
  | 17 => ⟨S1x16x2048x128, .f32⟩
  | 18 => ⟨S1x2048x16x128, .f32⟩
  | 19 => ⟨S1x2048x2048, .f32⟩
  | 20 => ⟨S1x2048x2048, .f32⟩
  | 21 => ⟨S1x2048x2048, .f32⟩
  | 22 => ⟨S1x2048x2048, .f32⟩
  | 23 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c : Ref sig .tc := ⟨.hbm, 54, rfl⟩
abbrev main_v44 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v45 : Ref sig .tc := ⟨.hbm, 64, rfl⟩
abbrev main_cst_1 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v46 : Ref sig .tc := ⟨.hbm, 69, rfl⟩
abbrev main_cst_2 : Ref sig .tc := ⟨.hbm, 70, rfl⟩
abbrev main_v47 : Ref sig .tc := ⟨.hbm, 71, rfl⟩
abbrev main_v48 : Ref sig .tc := ⟨.hbm, 72, rfl⟩
abbrev main_cst_3 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_5 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_6 : Ref sig .tc := ⟨.hbm, 91, rfl⟩
abbrev main_v64 : Ref sig .tc := ⟨.hbm, 92, rfl⟩
abbrev main_cst_7 : Ref sig .tc := ⟨.hbm, 93, rfl⟩
abbrev main_v65 : Ref sig .tc := ⟨.hbm, 94, rfl⟩
abbrev main_v66 : Ref sig .tc := ⟨.hbm, 95, rfl⟩
abbrev main_cst_8 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_call2_v0 : Ref sig .tc := ⟨.hbm, 101, rfl⟩
abbrev main_call2_v1 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_10 : Ref sig .tc := ⟨.hbm, 114, rfl⟩
abbrev main_v81 : Ref sig .tc := ⟨.hbm, 115, rfl⟩
abbrev main_v82 : Ref sig .tc := ⟨.hbm, 116, rfl⟩
abbrev main_cst_11 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_call3_cst : Ref sig .tc := ⟨.hbm, 129, rfl⟩
abbrev main_call3_v0 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩

abbrev nD : Nat := 1
abbrev τ : Topo := Topo.v7x

variable {F : FTy → Type} [FloatOps F]
-- ==== Proof.Ideal.Qkv.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first region (projection and rotation): what its body leaves, and its obligation. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- A branch condition of the body, from the grid coordinates. -/
abbrev cond0_0 (i : grid0.Coords) : Prop := k0_cond1 i = 1#1
/-- The points at which that branch is taken. -/
theorem hcond0_0 : ∀ t : Fin cfg0.N, cond0_0 (grid0.coords t) ↔ t.val < 8 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val < 8)

/-- A branch condition of the body, from the grid coordinates. -/
abbrev cond0_1 (i : grid0.Coords) : Prop := k0_cond2 i = 1#1
/-- The points at which that branch is taken. -/
theorem hcond0_1 : ∀ t : Fin cfg0.N, cond0_1 (grid0.coords t) ↔ t.val / 8 % 3 = 1 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val / 8 % 3 = 1)

/-- A branch condition of the body, from the grid coordinates. -/
abbrev cond0_2 (i : grid0.Coords) : Prop := k0_cond3 i = 1#1
/-- The points at which that branch is taken. -/
theorem hcond0_2 : ∀ t : Fin cfg0.N, cond0_2 (grid0.coords t) ↔ 16 ≤ t.val :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ 16 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- The output window is written at the points of this case. -/
theorem liveAt0_6_A : ∀ t : Fin cfg0.N, cond0_0 (grid0.coords t) → ¬cond0_1 (grid0.coords t) → ¬cond0_2 (grid0.coords t) → cfg0.idle 6 (grid0.coords t) = false := by decide +kernel
/-- The output window is written at the points of this case. -/
theorem liveAt0_6_B : ∀ t : Fin cfg0.N, ¬cond0_0 (grid0.coords t) → cond0_1 (grid0.coords t) → ¬cond0_2 (grid0.coords t) → cfg0.idle 6 (grid0.coords t) = false := by decide +kernel
/-- The output window is written at the points of this case. -/
theorem liveAt0_6_C : ∀ t : Fin cfg0.N, ¬cond0_0 (grid0.coords t) → ¬cond0_1 (grid0.coords t) → cond0_2 (grid0.coords t) → cfg0.idle 6 (grid0.coords t) = false := by decide +kernel

abbrev VO0_6 : View sig .tc .vmem S1x256x2048 .bf16 := (Memref.whole cc0_stg6_0 : Memref sig .tc .vmem S1x256x2048 .bf16).view
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x2048 .bf16 := win0_6.stage (cfg0.slots t 6)
abbrev hs0_6 (t : Fin cfg0.N) : (ms0_6 t).IsWhole := hstage0_6 ((cfg0.slots t 6).cast nbuf0_6)

set_option maxHeartbeats 1000000 in
/-- The body run on whole staging buffers in this case: the pieces its stores leave in each buffer, with the proof that
    the body ends with those pieces written and its inputs as they were. -/
noncomputable def kernelRun0_A (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : cond0_0 i) (hc1 : ¬cond0_1 i) (hc2 : ¬cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) :
    { L6 : List (View.Piece (Elt F) S1x256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__qkv_rope_kernel i arg2 harg2 arg3 harg3 arg4 harg4 arg5 harg5 arg6 harg6 arg7 harg7 arg8 harg8) K } := by
  refine ⟨?_, fun E K => ?run⟩
  case run =>
    simp only [cc0__qkv_rope_kernel_eq_skeleton]; unfold cc0__qkv_rope_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The case's pieces for this buffer cover it. -/
theorem cover0_A_6 (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : cond0_0 i) (hc1 : ¬cond0_1 i) (hc2 : ¬cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) (y : S1x256x2048.Idx) :
    ∃ pc ∈ (kernelRun0_A c i arg2 harg2 arg3 harg3 arg4 harg4 arg5 harg5 arg6 harg6 arg7 harg7 arg8 harg8 hc0 hc1 hc2 x0 x1 x2 x3 x4 x5).1, y ∈ pc.1.set :=
  View.cover_of_tiledL (kernelRun0_A c i arg2 harg2 arg3 harg3 arg4 harg4 arg5 harg5 arg6 harg6 arg7 harg7 arg8 harg8 hc0 hc1 hc2 x0 x1 x2 x3 x4 x5).1 S1x256x2048.size (by sl_kernel_rfl) y

/-- What the case leaves in the output's staging buffer. -/
def out0_A_6 (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : cond0_0 i) (hc1 : ¬cond0_1 i) (hc2 : ¬cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) : Vec F S1x256x2048 .bf16 :=
  VO0_6.read (Elt F) (VO0_6.writes (Elt F) VO0_6.junk (kernelRun0_A c i arg2 harg2 arg3 harg3 arg4 harg4 arg5 harg5 arg6 harg6 arg7 harg7 arg8 harg8 hc0 hc1 hc2 x0 x1 x2 x3 x4 x5).1)

set_option maxHeartbeats 1000000 in
/-- The body run on whole staging buffers in this case: the pieces its stores leave in each buffer, with the proof that
    the body ends with those pieces written and its inputs as they were. -/
noncomputable def kernelRun0_B (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : ¬cond0_0 i) (hc1 : cond0_1 i) (hc2 : ¬cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) :
    { L6 : List (View.Piece (Elt F) S1x256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__qkv_rope_kernel i arg2 harg2 arg3 harg3 arg4 harg4 arg5 harg5 arg6 harg6 arg7 harg7 arg8 harg8) K } := by
  refine ⟨?_, fun E K => ?run⟩
  case run =>
    simp only [cc0__qkv_rope_kernel_eq_skeleton]; unfold cc0__qkv_rope_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The case's pieces for this buffer cover it. -/
theorem cover0_B_6 (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : ¬cond0_0 i) (hc1 : cond0_1 i) (hc2 : ¬cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) (y : S1x256x2048.Idx) :
    ∃ pc ∈ (kernelRun0_B c i arg2 harg2 arg3 harg3 arg4 harg4 arg5 harg5 arg6 harg6 arg7 harg7 arg8 harg8 hc0 hc1 hc2 x0 x1 x2 x3 x4 x5).1, y ∈ pc.1.set :=
  View.cover_of_tiledL (kernelRun0_B c i arg2 harg2 arg3 harg3 arg4 harg4 arg5 harg5 arg6 harg6 arg7 harg7 arg8 harg8 hc0 hc1 hc2 x0 x1 x2 x3 x4 x5).1 S1x256x2048.size (by sl_kernel_rfl) y

/-- What the case leaves in the output's staging buffer. -/
def out0_B_6 (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : ¬cond0_0 i) (hc1 : cond0_1 i) (hc2 : ¬cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) : Vec F S1x256x2048 .bf16 :=
  VO0_6.read (Elt F) (VO0_6.writes (Elt F) VO0_6.junk (kernelRun0_B c i arg2 harg2 arg3 harg3 arg4 harg4 arg5 harg5 arg6 harg6 arg7 harg7 arg8 harg8 hc0 hc1 hc2 x0 x1 x2 x3 x4 x5).1)

set_option maxHeartbeats 1000000 in
/-- The body run on whole staging buffers in this case: the pieces its stores leave in each buffer, with the proof that
    the body ends with those pieces written and its inputs as they were. -/
noncomputable def kernelRun0_C (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : ¬cond0_0 i) (hc1 : ¬cond0_1 i) (hc2 : cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) :
    { L6 : List (View.Piece (Elt F) S1x256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__qkv_rope_kernel i arg2 harg2 arg3 harg3 arg4 harg4 arg5 harg5 arg6 harg6 arg7 harg7 arg8 harg8) K } := by
  refine ⟨?_, fun E K => ?run⟩
  case run =>
    simp only [cc0__qkv_rope_kernel_eq_skeleton]; unfold cc0__qkv_rope_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The case's pieces for this buffer cover it. -/
theorem cover0_C_6 (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : ¬cond0_0 i) (hc1 : ¬cond0_1 i) (hc2 : cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) (y : S1x256x2048.Idx) :
    ∃ pc ∈ (kernelRun0_C c i arg2 harg2 arg3 harg3 arg4 harg4 arg5 harg5 arg6 harg6 arg7 harg7 arg8 harg8 hc0 hc1 hc2 x0 x1 x2 x3 x4 x5).1, y ∈ pc.1.set :=
  View.cover_of_tiledL (kernelRun0_C c i arg2 harg2 arg3 harg3 arg4 harg4 arg5 harg5 arg6 harg6 arg7 harg7 arg8 harg8 hc0 hc1 hc2 x0 x1 x2 x3 x4 x5).1 S1x256x2048.size (by sl_kernel_rfl) y

/-- What the case leaves in the output's staging buffer. -/
def out0_C_6 (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S2048x2048 .f32) (harg4 : arg4.IsWhole) (arg5 : Memref sig .tc .vmem S2048x2048 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x2048 .bf16) (harg8 : arg8.IsWhole) (hc0 : ¬cond0_0 i) (hc1 : ¬cond0_1 i) (hc2 : cond0_2 i)
    (x0 : Vec F S256x2048 .f32) (x1 : Vec F S2048x2048 .f32) (x2 : Vec F S2048x2048 .f32) (x3 : Vec F S2048x2048 .f32) (x4 : Vec F S1x256x128 .f32) (x5 : Vec F S1x256x128 .f32) : Vec F S1x256x2048 .bf16 :=
  VO0_6.read (Elt F) (VO0_6.writes (Elt F) VO0_6.junk (kernelRun0_C c i arg2 harg2 arg3 harg3 arg4 harg4 arg5 harg5 arg6 harg6 arg7 harg7 arg8 harg8 hc0 hc1 hc2 x0 x1 x2 x3 x4 x5).1)

/-- What the buffers written by the body hold after the body at position `n`. -/
def outsAt0 (c : Dev nD) : (n : ℕ) → n < cfg0.N → Vec F S1x256x2048 .bf16
  | 0, hn => out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (by (try dsimp only); omega)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if h0 : (n + 1) < 8 then
      if h1 : (n + 1) / 8 % 3 = 1 then
        False.elim (by have hN : n + 1 < 24 := lt_of_lt_of_eq hn (show cfg0.N = 24 from N_0); omega)
      else
        if h2 : 16 ≤ (n + 1) then
          False.elim (by have hN : n + 1 < 24 := lt_of_lt_of_eq hn (show cfg0.N = 24 from N_0); omega)
        else
          out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
    else
      if h1 : (n + 1) / 8 % 3 = 1 then
        if h2 : 16 ≤ (n + 1) then
          False.elim (by have hN : n + 1 < 24 := lt_of_lt_of_eq hn (show cfg0.N = 24 from N_0); omega)
        else
          out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
      else
        if h2 : 16 ≤ (n + 1) then
          out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) ((hcond0_2 ⟨n + 1, hn⟩).mpr h2) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
        else
          False.elim (by have hN : n + 1 < 24 := lt_of_lt_of_eq hn (show cfg0.N = 24 from N_0); omega)

/-- The same at a point of this case. -/
theorem outsAt0_A (c : Dev nD) (t : Fin cfg0.N) (h0 : t.val < 8) (h1 : ¬t.val / 8 % 3 = 1) (h2 : ¬16 ≤ t.val) :
    outsAt0 V c t.val t.isLt = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (fun h => h2 ((hcond0_2 t).mp h)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact (dif_pos h0).trans ((dif_neg h1).trans ((dif_neg h2).trans rfl))

/-- The same at a point of this case. -/
theorem outsAt0_B (c : Dev nD) (t : Fin cfg0.N) (h0 : ¬t.val < 8) (h1 : t.val / 8 % 3 = 1) (h2 : ¬16 ≤ t.val) :
    outsAt0 V c t.val t.isLt = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk0 V c 0 t) (iblk0 V c 1 t) (iblk0 V c 2 t) (iblk0 V c 3 t) (iblk0 V c 4 t) (iblk0 V c 5 t) := by
  obtain ⟨n, hn⟩ := t
  cases n with
  | zero => exact (by exfalso; (try dsimp only at h0); exact by omega)
  | succ n => exact (dif_neg h0).trans ((dif_pos h1).trans ((dif_neg h2).trans rfl))

/-- The same at a point of this case. -/
theorem outsAt0_C (c : Dev nD) (t : Fin cfg0.N) (h0 : ¬t.val < 8) (h1 : ¬t.val / 8 % 3 = 1) (h2 : 16 ≤ t.val) :
    outsAt0 V c t.val t.isLt = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) ((hcond0_2 t).mpr h2) (iblk0 V c 0 t) (iblk0 V c 1 t) (iblk0 V c 2 t) (iblk0 V c 3 t) (iblk0 V c 4 t) (iblk0 V c 5 t) := by
  obtain ⟨n, hn⟩ := t
  cases n with
  | zero => exact (by exfalso; (try dsimp only at h0); exact by omega)
  | succ n => exact (dif_neg h0).trans ((dif_neg h1).trans ((dif_pos h2).trans rfl))

/-- The pipeline's proof data: the arrays as entered, the staging buffers after each point, the invariant, the shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- What the body returns at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 1200000 in
/-- The body at any point: the case it is in is decided and that case's run applied. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl]
  have hN : t.val < 24 := lt_of_lt_of_eq t.isLt (show cfg0.N = 24 from N_0)
  by_cases h0 : t.val < 8
  · by_cases h1 : t.val / 8 % 3 = 1
    · exfalso; omega
    · by_cases h2 : 16 ≤ t.val
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4 t], after0_4]
        rw [show (dat0 V c).leavesExact 5 t = owns (c : Thread nD τ) (ms0_5 t) fullShare ((dat0 V c).after 5 t) from by
      unfold Dat.leavesExact; rw [liveAt0_5 t], after0_5]
        rw [show (dat0 V c).leavesExact 6 t = owns (c : Thread nD τ) (ms0_6 t) fullShare ((dat0 V c).after 6 t) from by
      unfold Dat.leavesExact; rw [liveAt0_6_A t ((hcond0_0 t).mpr h0) (fun h => h1 ((hcond0_1 t).mp h)) (fun h => h2 ((hcond0_2 t).mp h))], after0_6]
        rw [outsAt0_A V c t h0 h1 h2]
        unfold out0_A_6
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ ((hcond0_0 t).mpr h0) (fun h => h1 ((hcond0_1 t).mp h)) (fun h => h2 ((hcond0_2 t).mp h)) (iblk0 V c 0 t) (iblk0 V c 1 t) (iblk0 V c 2 t) (iblk0 V c 3 t) (iblk0 V c 4 t) (iblk0 V c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_A_6 c _ _ _ _ _ _ _ _ _ _ _ _ _ _ _ _ _ _ _ _ _ _ _ _)
  · by_cases h1 : t.val / 8 % 3 = 1
    · by_cases h2 : 16 ≤ t.val
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4 t], after0_4]
        rw [show (dat0 V c).leavesExact 5 t = owns (c : Thread nD τ) (ms0_5 t) fullShare ((dat0 V c).after 5 t) from by
      unfold Dat.leavesExact; rw [liveAt0_5 t], after0_5]
        rw [show (dat0 V c).leavesExact 6 t = owns (c : Thread nD τ) (ms0_6 t) fullShare ((dat0 V c).after 6 t) from by
      unfold Dat.leavesExact; rw [liveAt0_6_B t (fun h => h0 ((hcond0_0 t).mp h)) ((hcond0_1 t).mpr h1) (fun h => h2 ((hcond0_2 t).mp h))], after0_6]
        rw [outsAt0_B V c t h0 h1 h2]
        unfold out0_B_6
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ (fun h => h0 ((hcond0_0 t).mp h)) ((hcond0_1 t).mpr h1) (fun h => h2 ((hcond0_2 t).mp h)) (iblk0 V c 0 t) (iblk0 V c 1 t) (iblk0 V c 2 t) (iblk0 V c 3 t) (iblk0 V c 4 t) (iblk0 V c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_B_6 c _ _ _ _ _ _ _ _ _ _ _ _ _ _ _ _ _ _ _ _ _ _ _ _)
    · by_cases h2 : 16 ≤ t.val
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4 t], after0_4]
        rw [show (dat0 V c).leavesExact 5 t = owns (c : Thread nD τ) (ms0_5 t) fullShare ((dat0 V c).after 5 t) from by
      unfold Dat.leavesExact; rw [liveAt0_5 t], after0_5]
        rw [show (dat0 V c).leavesExact 6 t = owns (c : Thread nD τ) (ms0_6 t) fullShare ((dat0 V c).after 6 t) from by
      unfold Dat.leavesExact; rw [liveAt0_6_C t (fun h => h0 ((hcond0_0 t).mp h)) (fun h => h1 ((hcond0_1 t).mp h)) ((hcond0_2 t).mpr h2)], after0_6]
        rw [outsAt0_C V c t h0 h1 h2]
        unfold out0_C_6
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ (fun h => h0 ((hcond0_0 t).mp h)) (fun h => h1 ((hcond0_1 t).mp h)) ((hcond0_2 t).mpr h2) (iblk0 V c 0 t) (iblk0 V c 1 t) (iblk0 V c 2 t) (iblk0 V c 3 t) (iblk0 V c 4 t) (iblk0 V c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _)
      · exfalso; omega

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Ideal.AttnRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second region (attention statistics): its branch conditions, scratch buffers and the four runs of its body. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- A branch condition of the body, from the grid coordinates. -/
abbrev cond1_0 (i : grid1.Coords) : Prop := (Scalar.cmpi .ne (Scalar.extui (Scalar.cmpi .eq (BitVec.ofNat 32 (i 1).val) 0#32)) 0#32) = 1#1
/-- The points at which that branch is taken. -/
theorem hcond1_0 : ∀ t : Fin cfg1.N, cond1_0 (grid1.coords t) ↔ t.val % 4 = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-- A branch condition of the body, from the grid coordinates. -/
abbrev cond1_1 (i : grid1.Coords) : Prop := k1_cond2 i = 1#1
/-- The points at which that branch is taken. -/
theorem hcond1_1 : ∀ t : Fin cfg1.N, cond1_1 (grid1.coords t) ↔ t.val % 4 = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_1, k1_cond2, e0, e1]
    word_cmp
   : ∀ t : Fin grid1.N, cond1_1 (grid1.coords t) ↔ t.val % 4 = 0)

/-- A branch condition of the body, from the grid coordinates. -/
abbrev cond1_2 (i : grid1.Coords) : Prop := k1_cond3 i = 1#1
/-- The points at which that branch is taken. -/
theorem hcond1_2 : ∀ t : Fin cfg1.N, cond1_2 (grid1.coords t) ↔ t.val % 4 = 1 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_2, k1_cond3, e0, e1]
    word_cmp
   : ∀ t : Fin grid1.N, cond1_2 (grid1.coords t) ↔ t.val % 4 = 1)

/-- A branch condition of the body, from the grid coordinates. -/
abbrev cond1_3 (i : grid1.Coords) : Prop := k1_cond4 i = 1#1
/-- The points at which that branch is taken. -/
theorem hcond1_3 : ∀ t : Fin cfg1.N, cond1_3 (grid1.coords t) ↔ t.val % 4 = 2 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_3, k1_cond4, e0, e1]
    word_cmp
   : ∀ t : Fin grid1.N, cond1_3 (grid1.coords t) ↔ t.val % 4 = 2)

/-- A branch condition of the body, from the grid coordinates. -/
abbrev cond1_4 (i : grid1.Coords) : Prop := k1_cond5 i = 1#1
/-- The points at which that branch is taken. -/
theorem hcond1_4 : ∀ t : Fin cfg1.N, cond1_4 (grid1.coords t) ↔ t.val % 4 = 3 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_4, k1_cond5, e0, e1]
    word_cmp
   : ∀ t : Fin grid1.N, cond1_4 (grid1.coords t) ↔ t.val % 4 = 3)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- The branch conditions of one case, together. -/
abbrev conds1_A (i : grid1.Coords) : Prop := cond1_0 i ∧ cond1_1 i ∧ ¬cond1_2 i ∧ ¬cond1_3 i ∧ ¬cond1_4 i
instance conds1_A.dec (i : grid1.Coords) : Decidable (conds1_A i) :=
  @instDecidableAnd _ _ inferInstance (@instDecidableAnd _ _ inferInstance (@instDecidableAnd _ _ inferInstance (@instDecidableAnd _ _ inferInstance inferInstance)))
/-- The branch conditions of one case, together. -/
abbrev conds1_B (i : grid1.Coords) : Prop := ¬cond1_0 i ∧ ¬cond1_1 i ∧ cond1_2 i ∧ ¬cond1_3 i ∧ ¬cond1_4 i
instance conds1_B.dec (i : grid1.Coords) : Decidable (conds1_B i) :=
  @instDecidableAnd _ _ inferInstance (@instDecidableAnd _ _ inferInstance (@instDecidableAnd _ _ inferInstance (@instDecidableAnd _ _ inferInstance inferInstance)))
/-- The branch conditions of one case, together. -/
abbrev conds1_C (i : grid1.Coords) : Prop := ¬cond1_0 i ∧ ¬cond1_1 i ∧ ¬cond1_2 i ∧ cond1_3 i ∧ ¬cond1_4 i
instance conds1_C.dec (i : grid1.Coords) : Decidable (conds1_C i) :=
  @instDecidableAnd _ _ inferInstance (@instDecidableAnd _ _ inferInstance (@instDecidableAnd _ _ inferInstance (@instDecidableAnd _ _ inferInstance inferInstance)))
/-- The branch conditions of one case, together. -/
abbrev conds1_D (i : grid1.Coords) : Prop := ¬cond1_0 i ∧ ¬cond1_1 i ∧ ¬cond1_2 i ∧ ¬cond1_3 i ∧ cond1_4 i
instance conds1_D.dec (i : grid1.Coords) : Decidable (conds1_D i) :=
  @instDecidableAnd _ _ inferInstance (@instDecidableAnd _ _ inferInstance (@instDecidableAnd _ _ inferInstance (@instDecidableAnd _ _ inferInstance inferInstance)))
/-- The output window is written at the points of this case. -/
theorem liveAt1_3_A : ∀ t : Fin cfg1.N, cond1_0 (grid1.coords t) → cond1_1 (grid1.coords t) → ¬cond1_2 (grid1.coords t) → ¬cond1_3 (grid1.coords t) → ¬cond1_4 (grid1.coords t) → cfg1.idle 3 (grid1.coords t) = false :=
  fun t h0 h1 h2 h3 h4 => (by decide +kernel : ∀ t : Fin cfg1.N, conds1_A (grid1.coords t) → cfg1.idle 3 (grid1.coords t) = false) t ⟨h0, h1, h2, h3, h4⟩
/-- The output window is written at the points of this case. -/
theorem liveAt1_3_B : ∀ t : Fin cfg1.N, ¬cond1_0 (grid1.coords t) → ¬cond1_1 (grid1.coords t) → cond1_2 (grid1.coords t) → ¬cond1_3 (grid1.coords t) → ¬cond1_4 (grid1.coords t) → cfg1.idle 3 (grid1.coords t) = false :=
  fun t h0 h1 h2 h3 h4 => (by decide +kernel : ∀ t : Fin cfg1.N, conds1_B (grid1.coords t) → cfg1.idle 3 (grid1.coords t) = false) t ⟨h0, h1, h2, h3, h4⟩
/-- The output window is written at the points of this case. -/
theorem liveAt1_3_C : ∀ t : Fin cfg1.N, ¬cond1_0 (grid1.coords t) → ¬cond1_1 (grid1.coords t) → ¬cond1_2 (grid1.coords t) → cond1_3 (grid1.coords t) → ¬cond1_4 (grid1.coords t) → cfg1.idle 3 (grid1.coords t) = false :=
  fun t h0 h1 h2 h3 h4 => (by decide +kernel : ∀ t : Fin cfg1.N, conds1_C (grid1.coords t) → cfg1.idle 3 (grid1.coords t) = false) t ⟨h0, h1, h2, h3, h4⟩
/-- The output window is written at the points of this case. -/
theorem liveAt1_3_D : ∀ t : Fin cfg1.N, ¬cond1_0 (grid1.coords t) → ¬cond1_1 (grid1.coords t) → ¬cond1_2 (grid1.coords t) → ¬cond1_3 (grid1.coords t) → cond1_4 (grid1.coords t) → cfg1.idle 3 (grid1.coords t) = false :=
  fun t h0 h1 h2 h3 h4 => (by decide +kernel : ∀ t : Fin cfg1.N, conds1_D (grid1.coords t) → cfg1.idle 3 (grid1.coords t) = false) t ⟨h0, h1, h2, h3, h4⟩

abbrev VO1_3 : View sig .tc .vmem S1x512x512 .bf16 := (Memref.whole cc1_stg3_0 : Memref sig .tc .vmem S1x512x512 .bf16).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .bf16 := win1_3.stage (cfg1.slots t 3)
abbrev hs1_3 (t : Fin cfg1.N) : (ms1_3 t).IsWhole := hstage1_3 ((cfg1.slots t 3).cast nbuf1_3)
abbrev scM1_0 : Memref sig .tc .vmem S2048x384 .bf16 := Memref.whole cc1_scratch0
abbrev scM1_1 : Memref sig .tc .vmem S2048x128 .bf16 := Memref.whole cc1_scratch1
abbrev VS1_0 : View sig .tc .vmem S2048x384 .bf16 := scM1_0.view
abbrev VS1_1 : View sig .tc .vmem S2048x128 .bf16 := scM1_1.view

/-- A buffer of core `c` owned whole, at some contents. -/
abbrev someAt (c : Dev nD) (b : Ref sig .tc) : sProp 𝕄 :=
  iprop(∃ f : Buf (Elt F) ((c : Thread nD τ).loc b), ((c : Thread nD τ).loc b) ↦{fullShare} f)

/-- What the invariant of this region keeps besides its two scratch buffers: the other regions' scoped buffers and the
    generator register, each at some contents. -/
def Rest1 (c : Dev nD) : sProp 𝕄 :=
  iprop(someAt c cc0_stg0_0 ∗ someAt c cc0_stg0_1 ∗ someAt c cc0_stg1_0 ∗ someAt c cc0_stg2_0 ∗ someAt c cc0_stg3_0 ∗ someAt c cc0_stg4_0 ∗ someAt c cc0_stg4_1 ∗ someAt c cc0_stg5_0 ∗ someAt c cc0_stg5_1 ∗ someAt c cc0_stg6_0 ∗ someAt c cc0_stg6_1 ∗ someAt c cc2_stg0_0 ∗ someAt c cc2_stg0_1 ∗ someAt c cc2_stg1_0 ∗ someAt c cc2_stg2_0 ∗ someAt c cc2_stg3_0 ∗ someAt c cc2_stg4_0 ∗ someAt c cc2_stg4_1 ∗ someAt c cc2_stg6_0 ∗ someAt c cc2_stg6_1 ∗ someAt c cc2_scratch0 ∗ someAt c cc2_stg5_0 ∗ (∃ r, prngReg c r))

theorem PhiA1_eq (c : Dev nD) :
    (Pipeline.ΦA spec1 c : sProp 𝕄)
      = iprop(iprop(someAt c cc0_stg0_0 ∗ someAt c cc0_stg0_1 ∗ someAt c cc0_stg1_0 ∗ someAt c cc0_stg2_0 ∗ someAt c cc0_stg3_0 ∗ someAt c cc0_stg4_0 ∗ someAt c cc0_stg4_1 ∗ someAt c cc0_stg5_0 ∗ someAt c cc0_stg5_1 ∗ someAt c cc0_stg6_0 ∗ someAt c cc0_stg6_1 ∗ (∃ d, owns (c : Thread nD τ) scM1_0 fullShare d) ∗ (∃ d, owns (c : Thread nD τ) scM1_1 fullShare d) ∗ someAt c cc2_stg0_0 ∗ someAt c cc2_stg0_1 ∗ someAt c cc2_stg1_0 ∗ someAt c cc2_stg2_0 ∗ someAt c cc2_stg3_0 ∗ someAt c cc2_stg4_0 ∗ someAt c cc2_stg4_1 ∗ someAt c cc2_stg6_0 ∗ someAt c cc2_stg6_1 ∗ someAt c cc2_scratch0 ∗ someAt c cc2_stg5_0) ∗ (∃ r, prngReg c r)) := by
  unfold Pipeline.ΦA; rw [scopedRest1_eq]; simp only [scM1_0, scM1_1, owns_whole]; try rfl

/-- The two scratch buffers taken out of the region's invariant. -/
theorem PhiA1_open (c : Dev nD) :
    (Pipeline.ΦA spec1 c : sProp 𝕄)
      ⊢ iprop(iprop((∃ d, owns (c : Thread nD τ) scM1_0 fullShare d) ∗ (∃ d, owns (c : Thread nD τ) scM1_1 fullShare d)) ∗ Rest1 c) := by
  rw [PhiA1_eq]; unfold Rest1
  iintro ⟨⟨H0, H1, H2, H3, H4, H5, H6, H7, H8, H9, H10, H11, H12, H13, H14, H15, H16, H17, H18, H19, H20, H21, H22, H23⟩, Hg⟩
  isplitl [H11 H12]
  · isplitl [H11]; · iexact H11
    iexact H12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact Hg

/-- The two scratch buffers put back. -/
theorem PhiA1_close (c : Dev nD) :
    iprop(iprop((∃ d, owns (c : Thread nD τ) scM1_0 fullShare d) ∗ (∃ d, owns (c : Thread nD τ) scM1_1 fullShare d)) ∗ Rest1 c)
      ⊢ (Pipeline.ΦA spec1 c : sProp 𝕄) := by
  rw [PhiA1_eq]; unfold Rest1
  iintro ⟨⟨H11, H12⟩, H0, H1, H2, H3, H4, H5, H6, H7, H8, H9, H10, H13, H14, H15, H16, H17, H18, H19, H20, H21, H22, H23, Hg⟩
  isplitl [H0 H1 H2 H3 H4 H5 H6 H7 H8 H9 H10 H11 H12 H13 H14 H15 H16 H17 H18 H19 H20 H21 H22 H23]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  iexact Hg

end Cert.KernelIdeal.Run

end
-- ==== Proof.Ideal.AttnFill.lean ====
module

public import proofs.«01_k».proof.Proof.Ideal.AttnRuns
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The body of the second region at a head's first strip: both scratch buffers filled, the first strip written. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body run on whole staging buffers in this case: the pieces its stores leave in each buffer, with the proof that
    the body ends with those pieces written and its inputs as they were. -/
noncomputable def kernelRun1_A (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : cond1_0 i) (hc1 : cond1_1 i) (hc2 : ¬cond1_2 i) (hc3 : ¬cond1_3 i) (hc4 : ¬cond1_4 i)
    (x0 : Vec F S1x512x128 .bf16) (x1 : Vec F S1x2048x128 .bf16) (x2 : Vec F S1x2048x128 .bf16) :
    Σ' (L3 : List (View.Piece (Elt F) S1x512x512 .bf16)), Σ' (LS0 : List (View.Piece (Elt F) S2048x384 .bf16)), { LS1 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Run

end
-- ==== Proof.Ideal.AttnStrips.lean ====
module

public import proofs.«01_k».proof.Proof.Ideal.AttnRuns
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The body of the second region at a head's later strips. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body run on whole staging buffers in this case: the pieces its stores leave in each buffer, with the proof that
    the body ends with those pieces written and its inputs as they were. -/
noncomputable def kernelRun1_B (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : cond1_2 i) (hc3 : ¬cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) :
    Σ' (L3 : List (View.Piece (Elt F) S1x512x512 .bf16)), Σ' (LS0 : List (View.Piece (Elt F) S2048x384 .bf16)), { LS1 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ owns (c : Thread nD τ) arg7 fullShare xs1) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _; isplitr; · ipureintro; exact harg7.read_unread _
    iexact HS1

set_option maxHeartbeats 1000000 in
/-- The body run on whole staging buffers in this case: the pieces its stores leave in each buffer, with the proof that
    the body ends with those pieces written and its inputs as they were. -/
noncomputable def kernelRun1_C (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) :
    Σ' (L3 : List (View.Piece (Elt F) S1x512x512 .bf16)), Σ' (LS0 : List (View.Piece (Elt F) S2048x384 .bf16)), { LS1 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ owns (c : Thread nD τ) arg7 fullShare xs1) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _; isplitr; · ipureintro; exact harg7.read_unread _
    iexact HS1

set_option maxHeartbeats 1000000 in
/-- The body run on whole staging buffers in this case: the pieces its stores leave in each buffer, with the proof that
    the body ends with those pieces written and its inputs as they were. -/
noncomputable def kernelRun1_D (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : ¬cond1_3 i) (hc4 : cond1_4 i)
    (x0 : Vec F S1x512x128 .bf16) (x1 : Vec F S1x2048x128 .bf16) (x2 : Vec F S1x2048x128 .bf16) (xs0 : Vec F S2048x384 .bf16) (xs1 : Vec F S2048x128 .bf16) :
    Σ' (L3 : List (View.Piece (Elt F) S1x512x512 .bf16)), Σ' (LS0 : List (View.Piece (Elt F) S2048x384 .bf16)), { LS1 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ owns (c : Thread nD τ) arg7 fullShare xs1) -∗ K ⟨⟩))
          ⊢ wp frame (wpE (defs₀ (F := F)) Variants.none c none) E (cc1__attn_kernel i arg2 harg2 arg3 harg3 arg4 harg4 arg5 harg5 arg6 harg6 arg7 harg7) K } := by
  refine ⟨?_, [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _; isplitr; · ipureintro; exact harg7.read_unread _
    iexact HS1

end Cert.KernelIdeal.Run

end
-- ==== Proof.Ideal.Attn.lean ====
module

public import proofs.«01_k».proof.Proof.Ideal.AttnFill
public import proofs.«01_k».proof.Proof.Ideal.AttnStrips
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second region: what its output and scratch buffers hold after each point, and its obligation. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The case's pieces for this buffer cover it. -/
theorem cover1_A_3 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : cond1_0 i) (hc1 : cond1_1 i) (hc2 : ¬cond1_2 i) (hc3 : ¬cond1_3 i) (hc4 : ¬cond1_4 i)
    (x0 : Vec F S1x512x128 .bf16) (x1 : Vec F S1x2048x128 .bf16) (x2 : Vec F S1x2048x128 .bf16) (y : S1x512x512.Idx) :
    ∃ pc ∈ (kernelRun1_A c i arg2 harg2 arg3 harg3 arg4 harg4 arg5 harg5 arg6 harg6 arg7 harg7 hc0 hc1 hc2 hc3 hc4 x0 x1 x2).1, y ∈ pc.1.set :=
  View.cover_of_tiledL (kernelRun1_A c i arg2 harg2 arg3 harg3 arg4 harg4 arg5 harg5 arg6 harg6 arg7 harg7 hc0 hc1 hc2 hc3 hc4 x0 x1 x2).1 S1x512x512.size (by sl_kernel_rfl) y

/-- What the case leaves in the output's staging buffer. -/
def out1_A_3 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : cond1_0 i) (hc1 : cond1_1 i) (hc2 : ¬cond1_2 i) (hc3 : ¬cond1_3 i) (hc4 : ¬cond1_4 i)
    (x0 : Vec F S1x512x128 .bf16) (x1 : Vec F S1x2048x128 .bf16) (x2 : Vec F S1x2048x128 .bf16) : Vec F S1x512x512 .bf16 :=
  VO1_3.read (Elt F) (VO1_3.writes (Elt F) VO1_3.junk (kernelRun1_A c i arg2 harg2 arg3 harg3 arg4 harg4 arg5 harg5 arg6 harg6 arg7 harg7 hc0 hc1 hc2 hc3 hc4 x0 x1 x2).1)

/-- The case's pieces for this buffer cover it. -/
theorem scover1_A_0 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : cond1_0 i) (hc1 : cond1_1 i) (hc2 : ¬cond1_2 i) (hc3 : ¬cond1_3 i) (hc4 : ¬cond1_4 i)
    (x0 : Vec F S1x512x128 .bf16) (x1 : Vec F S1x2048x128 .bf16) (x2 : Vec F S1x2048x128 .bf16) (y : S2048x384.Idx) :
    ∃ pc ∈ (kernelRun1_A c i arg2 harg2 arg3 harg3 arg4 harg4 arg5 harg5 arg6 harg6 arg7 harg7 hc0 hc1 hc2 hc3 hc4 x0 x1 x2).2.1, y ∈ pc.1.set :=
  View.cover_of_tiledL (kernelRun1_A c i arg2 harg2 arg3 harg3 arg4 harg4 arg5 harg5 arg6 harg6 arg7 harg7 hc0 hc1 hc2 hc3 hc4 x0 x1 x2).2.1 S2048x128.size (by sl_kernel_rfl) y

/-- What the case leaves in the scratch buffer. -/
def sout1_A_0 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : cond1_0 i) (hc1 : cond1_1 i) (hc2 : ¬cond1_2 i) (hc3 : ¬cond1_3 i) (hc4 : ¬cond1_4 i)
    (x0 : Vec F S1x512x128 .bf16) (x1 : Vec F S1x2048x128 .bf16) (x2 : Vec F S1x2048x128 .bf16) : Vec F S2048x384 .bf16 :=
  VS1_0.read (Elt F) (VS1_0.writes (Elt F) VS1_0.junk (kernelRun1_A c i arg2 harg2 arg3 harg3 arg4 harg4 arg5 harg5 arg6 harg6 arg7 harg7 hc0 hc1 hc2 hc3 hc4 x0 x1 x2).2.1)

/-- The case's pieces for this buffer cover it. -/
theorem scover1_A_1 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : cond1_0 i) (hc1 : cond1_1 i) (hc2 : ¬cond1_2 i) (hc3 : ¬cond1_3 i) (hc4 : ¬cond1_4 i)
    (x0 : Vec F S1x512x128 .bf16) (x1 : Vec F S1x2048x128 .bf16) (x2 : Vec F S1x2048x128 .bf16) (y : S2048x128.Idx) :
    ∃ pc ∈ (kernelRun1_A c i arg2 harg2 arg3 harg3 arg4 harg4 arg5 harg5 arg6 harg6 arg7 harg7 hc0 hc1 hc2 hc3 hc4 x0 x1 x2).2.2.1, y ∈ pc.1.set :=
  View.cover_of_tiledL (kernelRun1_A c i arg2 harg2 arg3 harg3 arg4 harg4 arg5 harg5 arg6 harg6 arg7 harg7 hc0 hc1 hc2 hc3 hc4 x0 x1 x2).2.2.1 S2048x128.size (by sl_kernel_rfl) y

/-- What the case leaves in the scratch buffer. -/
def sout1_A_1 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : cond1_0 i) (hc1 : cond1_1 i) (hc2 : ¬cond1_2 i) (hc3 : ¬cond1_3 i) (hc4 : ¬cond1_4 i)
    (x0 : Vec F S1x512x128 .bf16) (x1 : Vec F S1x2048x128 .bf16) (x2 : Vec F S1x2048x128 .bf16) : Vec F S2048x128 .bf16 :=
  VS1_1.read (Elt F) (VS1_1.writes (Elt F) VS1_1.junk (kernelRun1_A c i arg2 harg2 arg3 harg3 arg4 harg4 arg5 harg5 arg6 harg6 arg7 harg7 hc0 hc1 hc2 hc3 hc4 x0 x1 x2).2.2.1)

/-- The case's pieces for this buffer cover it. -/
theorem cover1_B_3 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : cond1_2 i) (hc3 : ¬cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) (y : S1x512x512.Idx) :
    ∃ pc ∈ (kernelRun1_B c i arg2 harg2 arg3 harg3 arg4 harg4 arg5 harg5 arg6 harg6 arg7 harg7 hc0 hc1 hc2 hc3 hc4 x0 x1 x2 xs0 xs1).1, y ∈ pc.1.set :=
  View.cover_of_tiledL (kernelRun1_B c i arg2 harg2 arg3 harg3 arg4 harg4 arg5 harg5 arg6 harg6 arg7 harg7 hc0 hc1 hc2 hc3 hc4 x0 x1 x2 xs0 xs1).1 S1x512x512.size (by sl_kernel_rfl) y

/-- What the case leaves in the output's staging buffer. -/
def out1_B_3 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : cond1_2 i) (hc3 : ¬cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) : Vec F S1x512x512 .bf16 :=
  VO1_3.read (Elt F) (VO1_3.writes (Elt F) VO1_3.junk (kernelRun1_B c i arg2 harg2 arg3 harg3 arg4 harg4 arg5 harg5 arg6 harg6 arg7 harg7 hc0 hc1 hc2 hc3 hc4 x0 x1 x2 xs0 xs1).1)

/-- What the case leaves in the scratch buffer. -/
def sout1_B_0 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : cond1_2 i) (hc3 : ¬cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) : Vec F S2048x384 .bf16 := xs0

/-- What the case leaves in the scratch buffer. -/
def sout1_B_1 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : cond1_2 i) (hc3 : ¬cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) : Vec F S2048x128 .bf16 := xs1

/-- The case's pieces for this buffer cover it. -/
theorem cover1_C_3 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) (y : S1x512x512.Idx) :
    ∃ pc ∈ (kernelRun1_C c i arg2 harg2 arg3 harg3 arg4 harg4 arg5 harg5 arg6 harg6 arg7 harg7 hc0 hc1 hc2 hc3 hc4 x0 x1 x2 xs0 xs1).1, y ∈ pc.1.set :=
  View.cover_of_tiledL (kernelRun1_C c i arg2 harg2 arg3 harg3 arg4 harg4 arg5 harg5 arg6 harg6 arg7 harg7 hc0 hc1 hc2 hc3 hc4 x0 x1 x2 xs0 xs1).1 S1x512x512.size (by sl_kernel_rfl) y

/-- What the case leaves in the output's staging buffer. -/
def out1_C_3 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) : Vec F S1x512x512 .bf16 :=
  VO1_3.read (Elt F) (VO1_3.writes (Elt F) VO1_3.junk (kernelRun1_C c i arg2 harg2 arg3 harg3 arg4 harg4 arg5 harg5 arg6 harg6 arg7 harg7 hc0 hc1 hc2 hc3 hc4 x0 x1 x2 xs0 xs1).1)

/-- What the case leaves in the scratch buffer. -/
def sout1_C_0 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) : Vec F S2048x384 .bf16 := xs0

/-- What the case leaves in the scratch buffer. -/
def sout1_C_1 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : cond1_3 i) (hc4 : ¬cond1_4 i)
    (x0 : Vec F S1x512x128 .bf16) (x1 : Vec F S1x2048x128 .bf16) (x2 : Vec F S1x2048x128 .bf16) (xs0 : Vec F S2048x384 .bf16) (xs1 : Vec F S2048x128 .bf16) : Vec F S2048x128 .bf16 := xs1

/-- The case's pieces for this buffer cover it. -/
theorem cover1_D_3 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : ¬cond1_3 i) (hc4 : cond1_4 i)
    (x0 : Vec F S1x512x128 .bf16) (x1 : Vec F S1x2048x128 .bf16) (x2 : Vec F S1x2048x128 .bf16) (xs0 : Vec F S2048x384 .bf16) (xs1 : Vec F S2048x128 .bf16) (y : S1x512x512.Idx) :
    ∃ pc ∈ (kernelRun1_D c i arg2 harg2 arg3 harg3 arg4 harg4 arg5 harg5 arg6 harg6 arg7 harg7 hc0 hc1 hc2 hc3 hc4 x0 x1 x2 xs0 xs1).1, y ∈ pc.1.set :=
  View.cover_of_tiledL (kernelRun1_D c i arg2 harg2 arg3 harg3 arg4 harg4 arg5 harg5 arg6 harg6 arg7 harg7 hc0 hc1 hc2 hc3 hc4 x0 x1 x2 xs0 xs1).1 S1x512x512.size (by sl_kernel_rfl) y

/-- What the case leaves in the output's staging buffer. -/
def out1_D_3 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : ¬cond1_3 i) (hc4 : cond1_4 i)
    (x0 : Vec F S1x512x128 .bf16) (x1 : Vec F S1x2048x128 .bf16) (x2 : Vec F S1x2048x128 .bf16) (xs0 : Vec F S2048x384 .bf16) (xs1 : Vec F S2048x128 .bf16) : Vec F S1x512x512 .bf16 :=
  VO1_3.read (Elt F) (VO1_3.writes (Elt F) VO1_3.junk (kernelRun1_D c i arg2 harg2 arg3 harg3 arg4 harg4 arg5 harg5 arg6 harg6 arg7 harg7 hc0 hc1 hc2 hc3 hc4 x0 x1 x2 xs0 xs1).1)

/-- What the case leaves in the scratch buffer. -/
def sout1_D_0 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : ¬cond1_3 i) (hc4 : cond1_4 i)
    (x0 : Vec F S1x512x128 .bf16) (x1 : Vec F S1x2048x128 .bf16) (x2 : Vec F S1x2048x128 .bf16) (xs0 : Vec F S2048x384 .bf16) (xs1 : Vec F S2048x128 .bf16) : Vec F S2048x384 .bf16 := xs0

/-- What the case leaves in the scratch buffer. -/
def sout1_D_1 (c : Dev nD) (i : grid1.Coords) (arg2 : Memref sig .tc .vmem S1x512x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x512 .bf16) (harg5 : arg5.IsWhole) (arg6 : Memref sig .tc .vmem S2048x384 .bf16) (harg6 : arg6.IsWhole) (arg7 : Memref sig .tc .vmem S2048x128 .bf16) (harg7 : arg7.IsWhole) (hc0 : ¬cond1_0 i) (hc1 : ¬cond1_1 i) (hc2 : ¬cond1_2 i) (hc3 : ¬cond1_3 i) (hc4 : cond1_4 i)
    (x0 : Vec F S1x512x128 .bf16) (x1 : Vec F S1x2048x128 .bf16) (x2 : Vec F S1x2048x128 .bf16) (xs0 : Vec F S2048x384 .bf16) (xs1 : Vec F S2048x128 .bf16) : Vec F S2048x128 .bf16 := xs1

/-- What the buffers written by the body hold after the body at position `n`. -/
def outsAt1 (c : Dev nD) : (n : ℕ) → n < cfg1.N → Vec F S1x512x512 .bf16 × Vec F S2048x384 .bf16 × Vec F S2048x128 .bf16
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (fun h => (fun h => by (try dsimp only at h); omega) ((hcond1_3 ⟨0, hn⟩).mp h)) (fun h => (fun h => by (try dsimp only at h); omega) ((hcond1_4 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (fun h => (fun h => by (try dsimp only at h); omega) ((hcond1_3 ⟨0, hn⟩).mp h)) (fun h => (fun h => by (try dsimp only at h); omega) ((hcond1_4 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (fun h => (fun h => by (try dsimp only at h); omega) ((hcond1_3 ⟨0, hn⟩).mp h)) (fun h => (fun h => by (try dsimp only at h); omega) ((hcond1_4 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 0 then
        if h2 : (n + 1) % 4 = 1 then
          False.elim (by have hN : n + 1 < 64 := lt_of_lt_of_eq hn (show cfg1.N = 64 from N_1); omega)
        else
          if h3 : (n + 1) % 4 = 2 then
            False.elim (by have hN : n + 1 < 64 := lt_of_lt_of_eq hn (show cfg1.N = 64 from N_1); omega)
          else
            if h4 : (n + 1) % 4 = 3 then
              False.elim (by have hN : n + 1 < 64 := lt_of_lt_of_eq hn (show cfg1.N = 64 from N_1); omega)
            else
              (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) ((hcond1_1 ⟨n + 1, hn⟩).mpr h1) (fun h => h2 ((hcond1_2 ⟨n + 1, hn⟩).mp h)) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) ((hcond1_1 ⟨n + 1, hn⟩).mpr h1) (fun h => h2 ((hcond1_2 ⟨n + 1, hn⟩).mp h)) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) ((hcond1_1 ⟨n + 1, hn⟩).mpr h1) (fun h => h2 ((hcond1_2 ⟨n + 1, hn⟩).mp h)) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩))
      else
        False.elim (by have hN : n + 1 < 64 := lt_of_lt_of_eq hn (show cfg1.N = 64 from N_1); omega)
    else
      if h1 : (n + 1) % 4 = 0 then
        False.elim (by have hN : n + 1 < 64 := lt_of_lt_of_eq hn (show cfg1.N = 64 from N_1); omega)
      else
        if h2 : (n + 1) % 4 = 1 then
          if h3 : (n + 1) % 4 = 2 then
            False.elim (by have hN : n + 1 < 64 := lt_of_lt_of_eq hn (show cfg1.N = 64 from N_1); omega)
          else
            if h4 : (n + 1) % 4 = 3 then
              False.elim (by have hN : n + 1 < 64 := lt_of_lt_of_eq hn (show cfg1.N = 64 from N_1); omega)
            else
              (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) ((hcond1_2 ⟨n + 1, hn⟩).mpr h2) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) ((hcond1_2 ⟨n + 1, hn⟩).mpr h2) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) ((hcond1_2 ⟨n + 1, hn⟩).mpr h2) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
        else
          if h3 : (n + 1) % 4 = 2 then
            if h4 : (n + 1) % 4 = 3 then
              False.elim (by have hN : n + 1 < 64 := lt_of_lt_of_eq hn (show cfg1.N = 64 from N_1); omega)
            else
              (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) ((hcond1_3 ⟨n + 1, hn⟩).mpr h3) (fun h => h4 ((hcond1_4 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) ((hcond1_3 ⟨n + 1, hn⟩).mpr h3) (fun h => h4 ((hcond1_4 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) ((hcond1_3 ⟨n + 1, hn⟩).mpr h3) (fun h => h4 ((hcond1_4 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
          else
            if h4 : (n + 1) % 4 = 3 then
              (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (fun h => h3 ((hcond1_3 ⟨n + 1, hn⟩).mp h)) ((hcond1_4 ⟨n + 1, hn⟩).mpr h4) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (fun h => h3 ((hcond1_3 ⟨n + 1, hn⟩).mp h)) ((hcond1_4 ⟨n + 1, hn⟩).mpr h4) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (fun h => h3 ((hcond1_3 ⟨n + 1, hn⟩).mp h)) ((hcond1_4 ⟨n + 1, hn⟩).mpr h4) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
            else
              False.elim (by have hN : n + 1 < 64 := lt_of_lt_of_eq hn (show cfg1.N = 64 from N_1); omega)

/-- The same at a point of this case. -/
theorem outsAt1_A (c : Dev nD) (t : Fin cfg1.N) (h0 : t.val % 4 = 0) (h1 : t.val % 4 = 0) (h2 : ¬t.val % 4 = 1) (h3 : ¬t.val % 4 = 2) (h4 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t)) := by
  obtain ⟨n, hn⟩ := t
  cases n with
  | zero => exact rfl
  | succ n => exact (dif_pos h0).trans ((dif_pos h1).trans ((dif_neg h2).trans ((dif_neg h3).trans ((dif_neg h4).trans rfl))))

/-- The same at a point of this case. -/
theorem outsAt1_B (c : Dev nD) (t : Fin cfg1.N) (h0 : ¬t.val % 4 = 0) (h1 : ¬t.val % 4 = 0) (h2 : t.val % 4 = 1) (h3 : ¬t.val % 4 = 2) (h4 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) ((hcond1_2 t).mpr h2) (fun h => h3 ((hcond1_3 t).mp h)) (fun h => h4 ((hcond1_4 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) ((hcond1_2 t).mpr h2) (fun h => h3 ((hcond1_3 t).mp h)) (fun h => h4 ((hcond1_4 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) ((hcond1_2 t).mpr h2) (fun h => h3 ((hcond1_3 t).mp h)) (fun h => h4 ((hcond1_4 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- The same at a point of this case. -/
theorem outsAt1_C (c : Dev nD) (t : Fin cfg1.N) (h0 : ¬t.val % 4 = 0) (h1 : ¬t.val % 4 = 0) (h2 : ¬t.val % 4 = 1) (h3 : t.val % 4 = 2) (h4 : ¬t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (fun h => h2 ((hcond1_2 t).mp h)) ((hcond1_3 t).mpr h3) (fun h => h4 ((hcond1_4 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (fun h => h2 ((hcond1_2 t).mp h)) ((hcond1_3 t).mpr h3) (fun h => h4 ((hcond1_4 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (fun h => h2 ((hcond1_2 t).mp h)) ((hcond1_3 t).mpr h3) (fun h => h4 ((hcond1_4 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- The same at a point of this case. -/
theorem outsAt1_D (c : Dev nD) (t : Fin cfg1.N) (h0 : ¬t.val % 4 = 0) (h1 : ¬t.val % 4 = 0) (h2 : ¬t.val % 4 = 1) (h3 : ¬t.val % 4 = 2) (h4 : t.val % 4 = 3) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (fun h => h2 ((hcond1_2 t).mp h)) (fun h => h3 ((hcond1_3 t).mp h)) ((hcond1_4 t).mpr h4) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (fun h => h2 ((hcond1_2 t).mp h)) (fun h => h3 ((hcond1_3 t).mp h)) ((hcond1_4 t).mpr h4) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (fun h => h2 ((hcond1_2 t).mp h)) (fun h => h3 ((hcond1_3 t).mp h)) ((hcond1_4 t).mpr h4) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

/-- The invariant before position `n`: the two scratch buffers, at what the point before left once one has run, and the rest. -/
def PhiS1 (c : Dev nD) : (n : ℕ) → n ≤ cfg1.N → sProp 𝕄
  | 0, _ => iprop(iprop((∃ d, owns (c : Thread nD τ) scM1_0 fullShare d) ∗ (∃ d, owns (c : Thread nD τ) scM1_1 fullShare d)) ∗ Rest1 c)
  | n + 1, hn => iprop(iprop(owns (c : Thread nD τ) scM1_0 fullShare ((outsAt1 V c n hn).2.1) ∗ owns (c : Thread nD τ) scM1_1 fullShare ((outsAt1 V c n hn).2.2)) ∗ Rest1 c)

theorem PhiS1_zero (c : Dev nD) (n : ℕ) (h : n ≤ cfg1.N) (hz : n = 0) : PhiS1 V c n h = iprop(iprop((∃ d, owns (c : Thread nD τ) scM1_0 fullShare d) ∗ (∃ d, owns (c : Thread nD τ) scM1_1 fullShare d)) ∗ Rest1 c) := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2)) ∗ Rest1 c) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2)) ∗ Rest1 c) := by
  cases n with
  | zero => exact absurd rfl hz
  | succ n => rfl

/-- The pipeline's proof data: the arrays as entered, the staging buffers after each point, the invariant, the shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What the body returns at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 6400000 in
/-- The body at any point: the case it is in is decided and that case's run applied. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 0
    · by_cases h2 : t.val % 4 = 1
      · exfalso; omega
      · by_cases h3 : t.val % 4 = 2
        · exfalso; omega
        · by_cases h4 : t.val % 4 = 3
          · exfalso; omega
          · rw [show (dat1 V c).leavesExact 0 t = owns (c : Thread nD τ) (ms1_0 t) fullShare ((dat1 V c).after 0 t) from by
      unfold Dat.leavesExact; rw [liveAt1_0 t], after1_0]
            rw [show (dat1 V c).leavesExact 1 t = owns (c : Thread nD τ) (ms1_1 t) fullShare ((dat1 V c).after 1 t) from by
      unfold Dat.leavesExact; rw [liveAt1_1 t], after1_1]
            rw [show (dat1 V c).leavesExact 2 t = owns (c : Thread nD τ) (ms1_2 t) fullShare ((dat1 V c).after 2 t) from by
      unfold Dat.leavesExact; rw [liveAt1_2 t], after1_2]
            rw [show (dat1 V c).leavesExact 3 t = owns (c : Thread nD τ) (ms1_3 t) fullShare ((dat1 V c).after 3 t) from by
      unfold Dat.leavesExact; rw [liveAt1_3_A t ((hcond1_0 t).mpr h0) ((hcond1_1 t).mpr h1) (fun h => h2 ((hcond1_2 t).mp h)) (fun h => h3 ((hcond1_3 t).mp h)) (fun h => h4 ((hcond1_4 t).mp h))], after1_3]
            by_cases hz : t.val = 0
            · rw [PhiS1_castSucc V c t, PhiS1_zero V c _ _ hz]
              rw [outsAt1_A V c t h0 h1 h2 h3 h4]
              unfold out1_A_3 sout1_A_0 sout1_A_1; (try dsimp only)
              iintro ⟨⟨⟨HS0, HS1⟩, Hg⟩, Ho, ⟨%d0, H0⟩, ⟨%d1, H1⟩, ⟨%d2, H2⟩, ⟨%d3, H3⟩⟩
              iapply ((kernelRun1_A c (grid1.coords t) _ _ _ _ _ _ _ _ _ _ _ _ ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t)).2.2.2 Set.univ _)
              isplitl [H0]; · iexact H0
              isplitl [H1]; · iexact H1
              isplitl [H2]; · iexact H2
              isplitl [H3]; · iexists _; iexact H3
              isplitl [HS0]; · iexact HS0
              isplitl [HS1]; · iexact HS1
              iintro ⟨H0, H1, H2, ⟨%e3, H3⟩, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover1_A_0 c _ _ _ _ _ _ _ _ _ _ _ _ _ _ _ _ _ _ _ _ _)
                  unfold owns; iexists _; isplitr
                  swap; · iexact HS1
                  ipureintro; exact View.read_writes_of_cover _ _ _ _ _ (scover1_A_1 c _ _ _ _ _ _ _ _ _ _ _ _ _ _ _ _ _ _ _ _ _)
                iexact Hg
              isplitl [Ho]; · iexact Ho
              isplitl [H0]; · iexact H0
              isplitl [H1]; · iexact H1
              isplitl [H2]; · iexact H2
              unfold owns; iexists _; isplitr
              swap; · iexact H3
              ipureintro; exact View.read_writes_of_cover _ _ _ _ _ (cover1_A_3 c _ _ _ _ _ _ _ _ _ _ _ _ _ _ _ _ _ _ _ _ _)
            · rw [PhiS1_castSucc V c t, PhiS1_pos V c _ _ hz]
              rw [outsAt1_A V c t h0 h1 h2 h3 h4]
              unfold out1_A_3 sout1_A_0 sout1_A_1; (try dsimp only)
              iintro ⟨⟨⟨HS0, HS1⟩, Hg⟩, Ho, ⟨%d0, H0⟩, ⟨%d1, H1⟩, ⟨%d2, H2⟩, ⟨%d3, H3⟩⟩
              iapply ((kernelRun1_A c (grid1.coords t) _ _ _ _ _ _ _ _ _ _ _ _ ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t)).2.2.2 Set.univ _)
              isplitl [H0]; · iexact H0
              isplitl [H1]; · iexact H1
              isplitl [H2]; · iexact H2
              isplitl [H3]; · iexists _; iexact H3
              isplitl [HS0]; · iexists _; iexact HS0
              isplitl [HS1]; · iexists _; iexact HS1
              iintro ⟨H0, H1, H2, ⟨%e3, H3⟩, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover1_A_0 c _ _ _ _ _ _ _ _ _ _ _ _ _ _ _ _ _ _ _ _ _)
                  unfold owns; iexists _; isplitr
                  swap; · iexact HS1
                  ipureintro; exact View.read_writes_of_cover _ _ _ _ _ (scover1_A_1 c _ _ _ _ _ _ _ _ _ _ _ _ _ _ _ _ _ _ _ _ _)
                iexact Hg
              isplitl [Ho]; · iexact Ho
              isplitl [H0]; · iexact H0
              isplitl [H1]; · iexact H1
              isplitl [H2]; · iexact H2
              unfold owns; iexists _; isplitr
              swap; · iexact H3
              ipureintro; exact View.read_writes_of_cover _ _ _ _ _ (cover1_A_3 c _ _ _ _ _ _ _ _ _ _ _ _ _ _ _ _ _ _ _ _ _)
    · exfalso; omega
  · by_cases h1 : t.val % 4 = 0
    · exfalso; omega
    · by_cases h2 : t.val % 4 = 1
      · by_cases h3 : t.val % 4 = 2
        · exfalso; omega
        · by_cases h4 : t.val % 4 = 3
          · exfalso; omega
          · rw [show (dat1 V c).leavesExact 0 t = owns (c : Thread nD τ) (ms1_0 t) fullShare ((dat1 V c).after 0 t) from by
      unfold Dat.leavesExact; rw [liveAt1_0 t], after1_0]
            rw [show (dat1 V c).leavesExact 1 t = owns (c : Thread nD τ) (ms1_1 t) fullShare ((dat1 V c).after 1 t) from by
      unfold Dat.leavesExact; rw [liveAt1_1 t], after1_1]
            rw [show (dat1 V c).leavesExact 2 t = owns (c : Thread nD τ) (ms1_2 t) fullShare ((dat1 V c).after 2 t) from by
      unfold Dat.leavesExact; rw [liveAt1_2 t], after1_2]
            rw [show (dat1 V c).leavesExact 3 t = owns (c : Thread nD τ) (ms1_3 t) fullShare ((dat1 V c).after 3 t) from by
      unfold Dat.leavesExact; rw [liveAt1_3_B t (fun h => h0 ((hcond1_0 t).mp h)) (fun h => h1 ((hcond1_1 t).mp h)) ((hcond1_2 t).mpr h2) (fun h => h3 ((hcond1_3 t).mp h)) (fun h => h4 ((hcond1_4 t).mp h))], after1_3]
            by_cases hz : t.val = 0
            · exfalso; have hN : t.val < 64 := lt_of_lt_of_eq t.isLt (show cfg1.N = 64 from N_1); omega
            · rw [PhiS1_castSucc V c t, PhiS1_pos V c _ _ hz]
              rw [outsAt1_B V c t h0 h1 h2 h3 h4]
              unfold out1_B_3 sout1_B_0 sout1_B_1; (try dsimp only)
              iintro ⟨⟨⟨HS0, HS1⟩, Hg⟩, Ho, ⟨%d0, H0⟩, ⟨%d1, H1⟩, ⟨%d2, H2⟩, ⟨%d3, H3⟩⟩
              iapply ((kernelRun1_B c (grid1.coords t) _ _ _ _ _ _ _ _ _ _ _ _ (fun h => h0 ((hcond1_0 t).mp h)) (fun h => h1 ((hcond1_1 t).mp h)) ((hcond1_2 t).mpr h2) (fun h => h3 ((hcond1_3 t).mp h)) (fun h => h4 ((hcond1_4 t).mp h)) (iblk1 V c 0 t) (iblk1 V c 1 t) (iblk1 V c 2 t) _ _).2.2.2 Set.univ _)
              isplitl [H0]; · iexact H0
              isplitl [H1]; · iexact H1
              isplitl [H2]; · iexact H2
              isplitl [H3]; · iexists _; iexact H3
              isplitl [HS0]; · iexact HS0
              isplitl [HS1]; · iexact HS1
              iintro ⟨H0, H1, H2, ⟨%e3, H3⟩, HS0, HS1⟩
              isplitl [HS0 HS1 Hg]
              · isplitl [HS0 HS1]
                · isplitl [HS0]
                  · iexact HS0
                  iexact HS1
                iexact Hg
              isplitl [Ho]; · iexact Ho
              isplitl [H0]; · iexact H0
              isplitl [H1]; · iexact H1
              isplitl [H2]; · iexact H2
              unfold owns; iexists _; isplitr
              swap; · iexact H3
              ipureintro; exact View.read_writes_of_cover _ _ _ _ _ (cover1_B_3 c _ _ _ _ _ _ _ _ _ _ _ _ _ _ _ _ _ _ _ _ _ _ _)
      · by_cases h3 : t.val % 4 = 2
        · by_cases h4 : t.val % 4 = 3
          · exfalso; omega
          · rw [show (dat1 V c).leavesExact 0 t = owns (c : Thread nD τ) (ms1_0 t) fullShare ((dat1 V c).after 0 t) from by
      unfold Dat.leavesExact; rw [liveAt1_0 t], after1_0]
            rw [show (dat1 V c).leavesExact 1 t = owns (c : Thread nD τ) (ms1_1 t) fullShare ((dat1 V c).after 1 t) from by
      unfold Dat.leavesExact; rw [liveAt1_1 t], after1_1]
            rw [show (dat1 V c).leavesExact 2 t = owns (c : Thread nD τ) (ms1_2 t) fullShare ((dat1 V c).after 2 t) from by
      unfold Dat.leavesExact; rw [liveAt1_2 t], after1_2]
            rw [show (dat1 V c).leavesExact 3 t = owns (c : Thread nD τ) (ms1_3 t) fullShare ((dat1 V c).after 3 t) from by
      unfold Dat.leavesExact; rw [liveAt1_3_C t (fun h => h0 ((hcond1_0 t).mp h)) (fun h => h1 ((hcond1_1 t).mp h)) (fun h => h2 ((hcond1_2 t).mp h)) ((hcond1_3 t).mpr h3) (fun h => h4 ((hcond1_4 t).mp h))], after1_3]
            by_cases hz : t.val = 0
            · exfalso; have hN : t.val < 64 := lt_of_lt_of_eq t.isLt (show cfg1.N = 64 from N_1); omega
            · rw [PhiS1_castSucc V c t, PhiS1_pos V c _ _ hz]
              rw [outsAt1_C V c t h0 h1 h2 h3 h4]
              unfold out1_C_3 sout1_C_0 sout1_C_1; (try dsimp only)
              iintro ⟨⟨⟨HS0, HS1⟩, Hg⟩, Ho, ⟨%d0, H0⟩, ⟨%d1, H1⟩, ⟨%d2, H2⟩, ⟨%d3, H3⟩⟩
              iapply ((kernelRun1_C c (grid1.coords t) _ _ _ _ _ _ _ _ _ _ _ _ (fun h => h0 ((hcond1_0 t).mp h)) (fun h => h1 ((hcond1_1 t).mp h)) (fun h => h2 ((hcond1_2 t).mp h)) ((hcond1_3 t).mpr h3) (fun h => h4 ((hcond1_4 t).mp h)) (iblk1 V c 0 t) (iblk1 V c 1 t) (iblk1 V c 2 t) _ _).2.2.2 Set.univ _)
              isplitl [H0]; · iexact H0
              isplitl [H1]; · iexact H1
              isplitl [H2]; · iexact H2
              isplitl [H3]; · iexists _; iexact H3
              isplitl [HS0]; · iexact HS0
              isplitl [HS1]; · iexact HS1
              iintro ⟨H0, H1, H2, ⟨%e3, H3⟩, HS0, HS1⟩
              isplitl [HS0 HS1 Hg]
              · isplitl [HS0 HS1]
                · isplitl [HS0]
                  · iexact HS0
                  iexact HS1
                iexact Hg
              isplitl [Ho]; · iexact Ho
              isplitl [H0]; · iexact H0
              isplitl [H1]; · iexact H1
              isplitl [H2]; · iexact H2
              unfold owns; iexists _; isplitr
              swap; · iexact H3
              ipureintro; exact View.read_writes_of_cover _ _ _ _ _ (cover1_C_3 c _ _ _ _ _ _ _ _ _ _ _ _ _ _ _ _ _ _ _ _ _ _ _)
        · by_cases h4 : t.val % 4 = 3
          · rw [show (dat1 V c).leavesExact 0 t = owns (c : Thread nD τ) (ms1_0 t) fullShare ((dat1 V c).after 0 t) from by
      unfold Dat.leavesExact; rw [liveAt1_0 t], after1_0]
            rw [show (dat1 V c).leavesExact 1 t = owns (c : Thread nD τ) (ms1_1 t) fullShare ((dat1 V c).after 1 t) from by
      unfold Dat.leavesExact; rw [liveAt1_1 t], after1_1]
            rw [show (dat1 V c).leavesExact 2 t = owns (c : Thread nD τ) (ms1_2 t) fullShare ((dat1 V c).after 2 t) from by
      unfold Dat.leavesExact; rw [liveAt1_2 t], after1_2]
            rw [show (dat1 V c).leavesExact 3 t = owns (c : Thread nD τ) (ms1_3 t) fullShare ((dat1 V c).after 3 t) from by
      unfold Dat.leavesExact; rw [liveAt1_3_D t (fun h => h0 ((hcond1_0 t).mp h)) (fun h => h1 ((hcond1_1 t).mp h)) (fun h => h2 ((hcond1_2 t).mp h)) (fun h => h3 ((hcond1_3 t).mp h)) ((hcond1_4 t).mpr h4)], after1_3]
            by_cases hz : t.val = 0
            · exfalso; have hN : t.val < 64 := lt_of_lt_of_eq t.isLt (show cfg1.N = 64 from N_1); omega
            · rw [PhiS1_castSucc V c t, PhiS1_pos V c _ _ hz]
              rw [outsAt1_D V c t h0 h1 h2 h3 h4]
              unfold out1_D_3 sout1_D_0 sout1_D_1; (try dsimp only)
              iintro ⟨⟨⟨HS0, HS1⟩, Hg⟩, Ho, ⟨%d0, H0⟩, ⟨%d1, H1⟩, ⟨%d2, H2⟩, ⟨%d3, H3⟩⟩
              iapply ((kernelRun1_D c (grid1.coords t) _ _ _ _ _ _ _ _ _ _ _ _ (fun h => h0 ((hcond1_0 t).mp h)) (fun h => h1 ((hcond1_1 t).mp h)) (fun h => h2 ((hcond1_2 t).mp h)) (fun h => h3 ((hcond1_3 t).mp h)) ((hcond1_4 t).mpr h4) (iblk1 V c 0 t) (iblk1 V c 1 t) (iblk1 V c 2 t) _ _).2.2.2 Set.univ _)
              isplitl [H0]; · iexact H0
              isplitl [H1]; · iexact H1
              isplitl [H2]; · iexact H2
              isplitl [H3]; · iexists _; iexact H3
              isplitl [HS0]; · iexact HS0
              isplitl [HS1]; · iexact HS1
              iintro ⟨H0, H1, H2, ⟨%e3, H3⟩, HS0, HS1⟩
              isplitl [HS0 HS1 Hg]
              · isplitl [HS0 HS1]
                · isplitl [HS0]
                  · iexact HS0
                  iexact HS1
                iexact Hg
              isplitl [Ho]; · iexact Ho
              isplitl [H0]; · iexact H0
              isplitl [H1]; · iexact H1
              isplitl [H2]; · iexact H2
              unfold owns; iexists _; isplitr
              swap; · iexact H3
              ipureintro; exact View.read_writes_of_cover _ _ _ _ _ (cover1_D_3 c _ _ _ _ _ _ _ _ _ _ _ _ _ _ _ _ _ _ _ _ _ _ _)
          · exfalso; omega

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_open c

/-- After the last point the invariant gives back what the region was handed: the scratch contents are forgotten. -/
theorem Phi_out1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine BIBase.Entails.trans ?_ (PhiA1_close c)
  iintro ⟨⟨HS0, HS1⟩, Hg⟩
  isplitl [HS0 HS1]
  · isplitl [HS0]
    · iexists _; iexact HS0
    iexists _; iexact HS1
  iexact Hg

end Cert.KernelIdeal.Run

end
-- ==== Proof.Ideal.Mlp.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The third region (per-head network and output projection): what its body leaves, and its obligation. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev VO2_6 : View sig .tc .vmem S256x2048 .f32 := (Memref.whole cc2_stg6_0 : Memref sig .tc .vmem S256x2048 .f32).view
abbrev ms2_0 (t : Fin cfg2.N) : Memref sig .tc .vmem S16x256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16x512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x256x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .smem S1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x2048 .f32 := win2_6.stage (cfg2.slots t 6)
abbrev hs2_6 (t : Fin cfg2.N) : (ms2_6 t).IsWhole := hstage2_6 ((cfg2.slots t 6).cast nbuf2_6)
abbrev scM2_0 : Memref sig .tc .vmem S256x2048 .bf16 := Memref.whole cc2_scratch0

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ d, owns (c : Thread nD τ) scM2_0 fullShare d)) ∗ (∃ r, prngReg c r)) := by
  unfold Pipeline.ΦA; rw [scopedRest2_eq]; simp only [scM2_0, owns_whole]; try rfl

set_option maxHeartbeats 1000000 in
/-- The body run on whole staging buffers in this case: the pieces its stores leave in each buffer, with the proof that
    the body ends with those pieces written and its inputs as they were. -/
noncomputable def kernelRun2_A (c : Dev nD) (i : grid2.Coords) (arg1 : Memref sig .tc .vmem S16x256x512 .bf16) (harg1 : arg1.IsWhole) (arg2 : Memref sig .tc .vmem S16x512x256 .f32) (harg2 : arg2.IsWhole) (arg3 : Memref sig .tc .vmem S16x256x128 .f32) (harg3 : arg3.IsWhole) (arg4 : Memref sig .tc .vmem S2048x2048 .f32) (harg4 : arg4.IsWhole) (arg5 : Memref sig .tc .vmem S256x2048 .f32) (harg5 : arg5.IsWhole) (arg6 : Memref sig .tc .smem S1 .f32) (harg6 : arg6.IsWhole) (arg7 : Memref sig .tc .vmem S256x2048 .f32) (harg7 : arg7.IsWhole) (arg8 : Memref sig .tc .vmem S256x2048 .bf16) (harg8 : arg8.IsWhole)
    (x0 : Vec F S16x256x512 .bf16) (x1 : Vec F S16x512x256 .f32) (x2 : Vec F S16x256x128 .f32) (x3 : Vec F S2048x2048 .f32) (x4 : Vec F S256x2048 .f32) (x5 : Vec F S1 .f32) :
    Σ' (L6 : List (View.Piece (Elt F) S256x2048 .f32)), { LT0 : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0)) -∗ K ⟨⟩))
          ⊢ wp frame (wpE (defs₀ (F := F)) Variants.none c none) E (cc2__mlp_oproj_kernel i arg1 harg1 arg2 harg2 arg3 harg3 arg4 harg4 arg5 harg5 arg6 harg6 arg7 harg7 arg8 harg8) K } := by
  refine ⟨?_, ?_, fun E K => ?run⟩
  case run =>
    simp only [cc2__mlp_oproj_kernel_eq_skeleton]; unfold cc2__mlp_oproj_kernel_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

/-- The case's pieces for this buffer cover it. -/
theorem cover2_A_6 (c : Dev nD) (i : grid2.Coords) (arg1 : Memref sig .tc .vmem S16x256x512 .bf16) (harg1 : arg1.IsWhole) (arg2 : Memref sig .tc .vmem S16x512x256 .f32) (harg2 : arg2.IsWhole) (arg3 : Memref sig .tc .vmem S16x256x128 .f32) (harg3 : arg3.IsWhole) (arg4 : Memref sig .tc .vmem S2048x2048 .f32) (harg4 : arg4.IsWhole) (arg5 : Memref sig .tc .vmem S256x2048 .f32) (harg5 : arg5.IsWhole) (arg6 : Memref sig .tc .smem S1 .f32) (harg6 : arg6.IsWhole) (arg7 : Memref sig .tc .vmem S256x2048 .f32) (harg7 : arg7.IsWhole) (arg8 : Memref sig .tc .vmem S256x2048 .bf16) (harg8 : arg8.IsWhole)
    (x0 : Vec F S16x256x512 .bf16) (x1 : Vec F S16x512x256 .f32) (x2 : Vec F S16x256x128 .f32) (x3 : Vec F S2048x2048 .f32) (x4 : Vec F S256x2048 .f32) (x5 : Vec F S1 .f32) (y : S256x2048.Idx) :
    ∃ pc ∈ (kernelRun2_A c i arg1 harg1 arg2 harg2 arg3 harg3 arg4 harg4 arg5 harg5 arg6 harg6 arg7 harg7 arg8 harg8 x0 x1 x2 x3 x4 x5).1, y ∈ pc.1.set :=
  View.cover_of_tiledL (kernelRun2_A c i arg1 harg1 arg2 harg2 arg3 harg3 arg4 harg4 arg5 harg5 arg6 harg6 arg7 harg7 arg8 harg8 x0 x1 x2 x3 x4 x5).1 S256x2048.size (by sl_kernel_rfl) y

/-- What the case leaves in the output's staging buffer. -/
def out2_A_6 (c : Dev nD) (i : grid2.Coords) (arg1 : Memref sig .tc .vmem S16x256x512 .bf16) (harg1 : arg1.IsWhole) (arg2 : Memref sig .tc .vmem S16x512x256 .f32) (harg2 : arg2.IsWhole) (arg3 : Memref sig .tc .vmem S16x256x128 .f32) (harg3 : arg3.IsWhole) (arg4 : Memref sig .tc .vmem S2048x2048 .f32) (harg4 : arg4.IsWhole) (arg5 : Memref sig .tc .vmem S256x2048 .f32) (harg5 : arg5.IsWhole) (arg6 : Memref sig .tc .smem S1 .f32) (harg6 : arg6.IsWhole) (arg7 : Memref sig .tc .vmem S256x2048 .f32) (harg7 : arg7.IsWhole) (arg8 : Memref sig .tc .vmem S256x2048 .bf16) (harg8 : arg8.IsWhole)
    (x0 : Vec F S16x256x512 .bf16) (x1 : Vec F S16x512x256 .f32) (x2 : Vec F S16x256x128 .f32) (x3 : Vec F S2048x2048 .f32) (x4 : Vec F S256x2048 .f32) (x5 : Vec F S1 .f32) : Vec F S256x2048 .f32 :=
  VO2_6.read (Elt F) (VO2_6.writes (Elt F) VO2_6.junk (kernelRun2_A c i arg1 harg1 arg2 harg2 arg3 harg3 arg4 harg4 arg5 harg5 arg6 harg6 arg7 harg7 arg8 harg8 x0 x1 x2 x3 x4 x5).1)

/-- What the buffers written by the body hold after the body at position `n`. -/
def outsAt2 (c : Dev nD) (t : Fin cfg2.N) : Vec F S256x2048 .f32 :=
  out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (iblk2 V c 0 t) (iblk2 V c 1 t) (iblk2 V c 2 t) (iblk2 V c 3 t) (iblk2 V c 4 t) (iblk2 V c 5 t)

/-- The pipeline's proof data: the arrays as entered, the staging buffers after each point, the invariant, the shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 800000 in
/-- The body at any point: the case it is in is decided and that case's run applied. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  rw [show (dat2 V c).Φ t.castSucc = Pipeline.ΦA spec2 c from rfl, PhiA2_eq]
  unfold outsAt2
  unfold out2_A_6
  iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_A c (grid2.coords t) _ _ _ _ _ _ _ _ _ _ _ _ _ _ _ _ (iblk2 V c 0 t) (iblk2 V c 1 t) (iblk2 V c 2 t) (iblk2 V c 3 t) (iblk2 V c 4 t) (iblk2 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%fT0, HS0⟩⟩
  isplitl [HR0 HR1 HR2 HR3 HR4 HR5 HR6 HR7 HR8 HR9 HR10 HR11 HR12 HR13 HR14 HR15 HR16 HR17 HR18 HR19 HR20 HS0 Hg]
  · isplitl [HR0 HR1 HR2 HR3 HR4 HR5 HR6 HR7 HR8 HR9 HR10 HR11 HR12 HR13 HR14 HR15 HR16 HR17 HR18 HR19 HR20 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover2_A_6 c _ _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Ideal.Whole.lean ====
module

public import proofs.«01_k».proof.Proof.Ideal.Qkv
public import proofs.«01_k».proof.Proof.Ideal.Attn
public import proofs.«01_k».proof.Proof.Ideal.Mlp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The buffer contents at every boundary of @main, the regions as segments, and the run of the whole program. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7]

theorem hostOps0_fresh : (hostOps0 : List (HloOp τ sig (Elt F))).Forall fun op => op.fresh = ∅ := by
  simp only [List.Forall]; repeat' constructor
abbrev hostOps0_W : List (Ref sig .tc) := [main_cst, main_v0, main_v1, main_v2, main_v3, main_v4, main_v5, main_v6, main_v7, main_v8, main_v9, main_cst_0, main_v10, main_cst_1, main_v11, main_cst_2, main_v12, main_cst_3, main_v13, main_v14, main_v15, main_v16, main_v17, main_v18, main_v19, main_v20, main_v21, main_v22, main_v23, main_v24, main_v25, main_v26]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v30]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffer contents after the region: its arrays at what the write-backs leave, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffer contents after the region: its arrays at what the write-backs leave, the rest as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffer contents after the region: its arrays at what the write-backs leave, the rest as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)

abbrev adm : (p : Fin 3) → (pcfgs (F := F) p).Adm := fun p => (cfgs p).toPCfg_adm
/-- Every pipeline's proof data, at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- The region as a segment of @main, from the contents at its entry to those at its exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as a segment of @main, from the contents at its entry to those at its exit. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in1 (V2 m ρ) c); unfold Pipeline.ΦA
    iintro ⟨Hp, -, Hr⟩
    isplitl [Hr]; · iexact Hr
    iexact Hp
  hout c := by
    rw [Pipeline.ownSems0_none]
    refine BIBase.Entails.trans (Phi_out1 (V2 m ρ) c) ?_; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as a segment of @main, from the contents at its entry to those at its exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run of @main ends, with every unscoped buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- A final state holding the last boundary's contents holds the argument arrays as launched. -/
theorem args_of (f : (ℓ : Loc nD τ sig) → Buf (Elt F) ℓ) {c : Dev nD} (h : ∀ b ∈ Pipeline.ucRefs τ sig, f (((c : Thread nD τ)).1, b) = W5 m ρ c b) :
      f ((c.tc : Thread nD τ).loc main_arg0) = m ((c.tc : Thread nD τ).loc main_arg0)
      ∧ f ((c.tc : Thread nD τ).loc main_arg1) = m ((c.tc : Thread nD τ).loc main_arg1)
      ∧ f ((c.tc : Thread nD τ).loc main_arg2) = m ((c.tc : Thread nD τ).loc main_arg2)
      ∧ f ((c.tc : Thread nD τ).loc main_arg3) = m ((c.tc : Thread nD τ).loc main_arg3)
      ∧ f ((c.tc : Thread nD τ).loc main_arg4) = m ((c.tc : Thread nD τ).loc main_arg4)
      ∧ f ((c.tc : Thread nD τ).loc main_arg5) = m ((c.tc : Thread nD τ).loc main_arg5)
      ∧ f ((c.tc : Thread nD τ).loc main_arg6) = m ((c.tc : Thread nD τ).loc main_arg6)
      ∧ f ((c.tc : Thread nD τ).loc main_arg7) = m ((c.tc : Thread nD τ).loc main_arg7) :=
    ⟨(h _ (mem_uc main_arg0 (by decide))).trans (W5_main_arg0 m ρ c),
     (h _ (mem_uc main_arg1 (by decide))).trans (W5_main_arg1 m ρ c),
     (h _ (mem_uc main_arg2 (by decide))).trans (W5_main_arg2 m ρ c),
     (h _ (mem_uc main_arg3 (by decide))).trans (W5_main_arg3 m ρ c),
     (h _ (mem_uc main_arg4 (by decide))).trans (W5_main_arg4 m ρ c),
     (h _ (mem_uc main_arg5 (by decide))).trans (W5_main_arg5 m ρ c),
     (h _ (mem_uc main_arg6 (by decide))).trans (W5_main_arg6 m ρ c),
     (h _ (mem_uc main_arg7 (by decide))).trans (W5_main_arg7 m ρ c)⟩

/-- Every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_of m ρ _ (h.1 c), h.2⟩) (run_all m ρ)

end Cert.KernelIdeal.Run

end
-- ==== Proof.Ideal.Claims.lean ====
/- The frame claims and the rule claim, each in the words of `Cert.Claim`. -/
module

public import proofs.«01_k».proof.Defs
public import proofs.«01_k».proof.Proof.Gen.Pre_finite_scores
public import proofs.«01_k».proof.Proof.Gen.ReferenceIdeal.Run
public import proofs.«01_k».proof.Proof.Word.Whole
public import proofs.«01_k».proof.Proof.Ideal.Whole
public import Idealize.ShloMosaic.Adequacy
public import Idealize.ShloMosaic.Init

@[expose] public section

noncomputable section

namespace Cert.Parts

open Idealize.ShloMosaic Idealize.SL.Sem

theorem frame_p : Cert.quiescent_Kernel := fun m ρ _ => Cert.Kernel.Run.frame m ρ

theorem frame_pi : Cert.quiescent_KernelIdeal := fun m ρ _ => Cert.KernelIdeal.Run.frame m ρ

theorem frame_pi_pre : Cert.quiescent_KernelIdeal_pre_finite_scores := fun m ρ _ => Cert.KernelIdeal.Run.frame m ρ

/-- The reference's host program runs, leaves its arguments alone, and has no semaphore to move. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_finite_scores := fun m ρ _ => frame_ri m ρ trivial

/-- The two sites of the named constant: `κ` gives "neg" the value −∞ in both formats. -/
theorem preserves : Cert.preserves_Kernel_KernelIdeal :=
  ⟨IdealRules.named_const.statement Cert.KernelIdeal.κ "neg" .bf16 0xF14A#16 ⊥ rfl,
    IdealRules.named_const.statement Cert.KernelIdeal.κ "neg" .f32 0xF149F2CA#32 ⊥ rfl⟩

end Cert.Parts

end
-- ==== Proof.Value.Maths.lean ====
module

public import Idealize.ShloMosaic.Lib.Pipeline.ValueKit

/-! The mathematics of the layer over the extended reals, away from any program: sums with a
    non-negative finite weight, the masked softmax, the running maximum. -/

@[expose] public section

noncomputable section

namespace Cert.Maths

open Idealize.ShloMosaic

/-! ## Definitions shared by the two programs -/

/-- The score of row `r` against row `j`. -/
def score (q k : Fin 2048 → Fin 128 → EReal) (r j : Fin 2048) : EReal := ∑ d, q r d * k j d

/-- The unnormalised causal weight. -/
def wt (q k : Fin 2048 → Fin 128 → EReal) (r j : Fin 2048) : EReal :=
  if j.val ≤ r.val then Ideal.exp (score q k r j) else 0

/-- A weighted total over all rows. -/
def tot (q k : Fin 2048 → Fin 128 → EReal) (f : Fin 2048 → EReal) (r : Fin 2048) : EReal :=
  ∑ j, wt q k r j * f j

/-- The reciprocal of the smoothed degree. -/
def c2 : EReal := Ideal.div 1 (1 + Ideal.ofBits .f32 897988541#32)

/-- The sum aggregator. -/
def sm (q k v : Fin 2048 → Fin 128 → EReal) (r : Fin 2048) (d : Fin 128) : EReal :=
  tot q k (fun j => v j d) r * Ideal.div 1 (tot q k (fun _ => 1) r)

/-- The variance aggregator. -/
def vr (q k v : Fin 2048 → Fin 128 → EReal) (r : Fin 2048) (d : Fin 128) : EReal :=
  tot q k (fun j => v j d * v j d) r * Ideal.div 1 (tot q k (fun _ => 1) r) * c2
    - sm q k v r d * c2 * (sm q k v r d * c2)

/-- The largest of the last `n` rows up to row `r`. -/
def win (v : Fin 2048 → Fin 128 → EReal) (n : ℕ) (r : Fin 2048) (d : Fin 128) : EReal :=
  (Finset.univ.filter fun j : Fin 2048 => j.val ≤ r.val ∧ r.val < j.val + n).sup fun j => v j d

/-- The four aggregators side by side. -/
def agg (q k v : Fin 2048 → Fin 128 → EReal) (r : Fin 2048) (e : Fin 512) : EReal :=
  if h : e.val < 128 then sm q k v r ⟨e.val, h⟩
  else if h : e.val - 128 < 128 then sm q k v r ⟨e.val - 128, h⟩ * c2
  else if h : e.val - 128 - 128 < 128 then win v 2048 r ⟨e.val - 128 - 128, h⟩
  else vr q k v r ⟨e.val - 128 - 128 - 128, by omega⟩

/-- A row turned by the rotary tables. -/
def rope (p cs sn : Fin 128 → EReal) (d : Fin 128) : EReal :=
  p d * cs d + (if h : d.val < 64 then 0 - p ⟨64 + d.val, by omega⟩ else p ⟨d.val - 64, by omega⟩) * sn d

/-- The per-head network's hidden unit, after its gate. -/
def silu (g : EReal) : EReal := g * Ideal.logistic g

/-! ## Non-negative finite weights -/

/-- A finite non-negative factor distributes over any finite sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

/-- A finite sum of finite numbers is the finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of finite numbers by a nonzero one. -/
theorem div_coe (x y : ℝ) (hy : y ≠ 0) : Ideal.div (x : EReal) (y : EReal) = ((x / y : ℝ) : EReal) := by
  have : (y : EReal) ≠ 0 := by exact_mod_cast hy
  unfold Ideal.div
  rw [if_neg this, ← EReal.coe_inv, ← EReal.coe_mul, div_eq_mul_inv]

/-- Division by a nonzero finite number is multiplication by its reciprocal. -/
theorem div_mul (x : EReal) (y : ℝ) (hy : y ≠ 0) : Ideal.div x (y : EReal) = x * Ideal.div 1 (y : EReal) := by
  have : (y : EReal) ≠ 0 := by exact_mod_cast hy
  unfold Ideal.div
  rw [if_neg this, if_neg this, one_mul]

theorem div_one (x : EReal) : Ideal.div x 1 = x := by
  unfold Ideal.div
  rw [if_neg one_ne_zero]
  have : (1 : EReal)⁻¹ = 1 := by simp
  rw [this, mul_one]

/-! ## The masked softmax of a row of finite scores -/

section Soft

variable (r : Fin 2048) (s : Fin 2048 → ℝ)

/-- A weight of the row. -/
def pw (j : Fin 2048) : ℝ := if j.val ≤ r.val then Real.exp (s j) else 0

/-- The row's total weight. -/
def pz : ℝ := ∑ j, pw r s j

theorem pw_nonneg (j : Fin 2048) : 0 ≤ pw r s j := by
  unfold pw; split
  · exact (Real.exp_pos _).le
  · exact le_rfl

theorem pz_pos : 0 < pz r s := by
  refine Finset.sum_pos' (fun j _ => pw_nonneg r s j) ⟨r, Finset.mem_univ _, ?_⟩
  unfold pw; rw [if_pos le_rfl]; exact Real.exp_pos _

/-- The normalised weight. -/
def aw (j : Fin 2048) : ℝ := pw r s j / pz r s

theorem aw_nonneg (j : Fin 2048) : 0 ≤ aw r s j := div_nonneg (pw_nonneg r s j) (pz_pos r s).le

theorem sum_aw : ∑ j, (aw r s j : EReal) = 1 := by
  rw [← coe_sum]
  have : ∑ j, aw r s j = 1 := by
    unfold aw; rw [← Finset.sum_div]; exact div_self (pz_pos r s).ne'
  rw [this]; rfl

/-- The shift by a finite number cancels in the quotient. -/
theorem soft (S : Fin 2048 → EReal) (hS : ∀ j, S j = if j.val ≤ r.val then (s j : EReal) else ⊥) (M : ℝ) (j : Fin 2048) :
    Ideal.div (Ideal.exp (S j - (M : EReal))) (∑ i, Ideal.exp (S i - (M : EReal))) = (aw r s j : EReal) := by
  have he : ∀ i, Ideal.exp (S i - (M : EReal)) = ((pw r s i * Real.exp (-M) : ℝ) : EReal) := by
    intro i
    rw [hS i]; unfold pw
    split
    · rw [← EReal.coe_sub, Ideal.exp_coe, sub_eq_add_neg, Real.exp_add]
    · rw [EReal.bot_sub, zero_mul]; rfl
  have hsum : (∑ i, Ideal.exp (S i - (M : EReal))) = ((pz r s * Real.exp (-M) : ℝ) : EReal) := by
    rw [Finset.sum_congr rfl fun i _ => he i, ← coe_sum, ← Finset.sum_mul]; rfl
  have hz : pz r s * Real.exp (-M) ≠ 0 := mul_ne_zero (pz_pos r s).ne' (Real.exp_pos _).ne'
  rw [hsum, he, div_coe _ _ hz, mul_div_mul_right _ _ (Real.exp_pos _).ne']
  rfl

variable {q k : Fin 2048 → Fin 128 → EReal}

theorem wt_coe (hs : ∀ j, score q k r j = (s j : EReal)) (j : Fin 2048) : wt q k r j = (pw r s j : EReal) := by
  unfold wt pw
  rw [hs j]
  split
  · exact Ideal.exp_coe _
  · rfl

/-- A total divided by the total weight is the weighted mean. -/
theorem tot_div (hs : ∀ j, score q k r j = (s j : EReal)) (f : Fin 2048 → EReal) :
    tot q k f r * Ideal.div 1 (tot q k (fun _ => 1) r) = ∑ j, (aw r s j : EReal) * f j := by
  have h1 : tot q k (fun _ => 1) r = (pz r s : EReal) := by
    unfold tot pz
    rw [coe_sum]
    exact Finset.sum_congr rfl fun j _ => by rw [mul_one, wt_coe r s hs]
  have h2 : Ideal.div 1 (pz r s : EReal) = ((1 / pz r s : ℝ) : EReal) := by
    have := div_coe 1 (pz r s) (pz_pos r s).ne'
    rwa [EReal.coe_one] at this
  rw [h1, h2]
  unfold tot
  rw [sum_mul_real _ _ _ (by have := (pz_pos r s).le; positivity)]
  refine Finset.sum_congr rfl fun j _ => ?_
  rw [wt_coe r s hs, mul_right_comm, ← EReal.coe_mul]
  unfold aw
  rw [mul_one_div]

end Soft

/-! ## The running maximum -/

theorem win_one (v : Fin 2048 → Fin 128 → EReal) (r : Fin 2048) (d : Fin 128) : win v 1 r d = v r d := by
  unfold win
  have : (Finset.univ.filter fun j : Fin 2048 => j.val ≤ r.val ∧ r.val < j.val + 1) = {r} := by
    ext j; simp only [Finset.mem_filter, Finset.mem_univ, true_and, Finset.mem_singleton]
    constructor
    · intro h; exact Fin.ext (by omega)
    · rintro rfl; omega
  rw [this, Finset.sup_singleton]

/-- Doubling: the window of `2 n` rows is two windows of `n`. -/
theorem win_double (v : Fin 2048 → Fin 128 → EReal) (n : ℕ) (r : Fin 2048) (d : Fin 128) (w : EReal)
    (hw : w = if h : r.val < n then ⊥ else win v n ⟨r.val - n, by omega⟩ d) :
    max (win v n r d) w = win v (n + n) r d := by
  subst hw
  apply eq_of_forall_ge_iff
  intro c
  unfold win
  split
  · rename_i h
    simp only [max_le_iff, bot_le, and_true, Finset.sup_le_iff, Finset.mem_filter, Finset.mem_univ, true_and]
    constructor
    · intro H j hj; exact H j ⟨hj.1, by omega⟩
    · intro H j hj; exact H j ⟨hj.1, by omega⟩
  · rename_i h
    simp only [max_le_iff, Finset.sup_le_iff, Finset.mem_filter, Finset.mem_univ, true_and]
    constructor
    · intro H j hj
      by_cases hc : r.val < j.val + n
      · exact H.1 j ⟨hj.1, hc⟩
      · exact H.2 j ⟨by omega, by omega⟩
    · intro H
      exact ⟨fun j hj => H j ⟨hj.1, by omega⟩, fun j hj => H j ⟨by omega, by omega⟩⟩

/-! ## Sums over an initial block and one more block -/

/-- A sum over a prefix of `n` rows and the next `m`, when the rest vanishes. -/
theorem sum_split {n m : ℕ} (hnm : n + m ≤ 2048) (F : Fin 2048 → EReal)
    (hF : ∀ j : Fin 2048, n + m ≤ j.val → F j = 0) :
    (∑ a : Fin n, F ⟨a.val, by omega⟩) + (∑ b : Fin m, F ⟨n + b.val, by omega⟩) = ∑ j, F j := by
  obtain ⟨l, hl⟩ := Nat.exists_eq_add_of_le hnm
  have key : ∀ N (hN : N = n + m + l) (G : Fin N → EReal), (∀ j : Fin N, n + m ≤ j.val → G j = 0) →
      (∑ a : Fin n, G ⟨a.val, by omega⟩) + (∑ b : Fin m, G ⟨n + b.val, by omega⟩) = ∑ j, G j := by
    intro N hN; subst hN
    intro G hG
    rw [Fin.sum_univ_add, Fin.sum_univ_add]
    have h0 : ∑ i : Fin l, G (Fin.natAdd (n + m) i) = 0 :=
      Finset.sum_eq_zero fun i _ => hG _ (by simp)
    rw [h0, add_zero]
    rfl
  exact key 2048 hl F hF

/-- A sum over the first `m` rows, when the rest vanishes. -/
theorem sum_first {m : ℕ} (hm : m ≤ 2048) (F : Fin 2048 → EReal)
    (hF : ∀ j : Fin 2048, m ≤ j.val → F j = 0) :
    (∑ b : Fin m, F ⟨b.val, by omega⟩) = ∑ j, F j := by
  have h := sum_split (n := 0) (m := m) (by omega) F (by intro j hj; exact hF j (by omega))
  simp only [Finset.univ_eq_empty, Finset.sum_empty, zero_add] at h
  exact h

end Cert.Maths
-- ==== Proof.Value.QkvValue.lean ====
module

public import proofs.«01_k».proof.Proof.Ideal.Whole
public import proofs.«01_k».proof.Proof.Value.Maths
public import Idealize.ShloMosaic.Lib.Pipeline.ValueKit

/-! The first region: its result array is the rotated projections, as a function of the arrays it reads. -/

@[expose] public section

set_option maxRecDepth 16384

noncomputable section

namespace Cert.KernelIdeal.Value

open Cert.KernelIdeal.Gen Cert.KernelIdeal.Run Cert.Maths
open Idealize.ShloMosaic Idealize.ShloMosaic.TcCoe Idealize.ShloMosaic.Tactic
open Idealize.ShloMosaic.Pipeline (Dat Cfg Window cellOf)

variable (V : (c : Dev nD) → (b : Ref sig .tc) → Buf (Elt Ideal) ((c : Thread nD τ).loc b))

/-- The projection of row `r` on head `h`, one number per lane. -/
def proj (X W : FVec Ideal S2048x2048 .f32) (r : Fin 2048) (h : Fin 16) (d : Fin 128) : EReal :=
  ∑ x : Fin 2048, X (ix2 r x) * W (ix2 x ⟨h.val * 128 + d.val, by omega⟩)

/-- The first region's result from its operands: the three projections, each turned by its tables. -/
def qkvOf (X Wq Wk Wv : FVec Ideal S2048x2048 .f32) (C S : FVec Ideal S3x2048x128 .f32) : FVec Ideal S3x2048x2048 .bf16 := fun i =>
  rope (proj X (if (i 0).val = 0 then Wq else if (i 0).val = 1 then Wk else Wv) (i 1) ⟨(i 2).val / 128, by have := (i 2).isLt; show _ < 16; change _ < 2048 at this; omega⟩)
    (fun d => C (ix3 (i 0) (i 1) d)) (fun d => S (ix3 (i 0) (i 1) d)) ⟨(i 2).val % 128, Nat.mod_lt _ (by decide)⟩

/-- The body's block at an index. -/
theorem proj_at (v0 : Vec Ideal S256x2048 .f32) (v3 v6 : Vec Ideal S1x256x128 .f32) (v18 : Vec Ideal S2048x2048 .f32)
    (z : Fin 1) (r : Fin 256) (e : Fin 2048) :
    k0_pay4 v0 v3 v6 v18 (ix3 z r e)
      = rope (fun d => ∑ x : Fin 2048, v0 (ix2 r x) * v18 (ix2 x ⟨e.val / 128 * 128 + d.val, by omega⟩))
          (fun d => v3 (ix3 0 r d)) (fun d => v6 (ix3 0 r d)) ⟨e.val % 128, Nat.mod_lt _ (by decide)⟩ := by
  have he : ∀ x : Fin 2048, v18 (ix2 x ⟨e.val / 128 * 128 + e.val % 128, by omega⟩) = v18 (ix2 x e) := fun x =>
    congrArg (fun k : Fin 2048 => v18 (ix2 x k)) (Fin.ext (by dsimp only; omega))
  pointwise [k0_pay4, k0_pay1, k0_pay2, k0_pay3]
  unfold rope
  dsimp only
  simp only [he]

/-- The windows' block indices. -/
theorem idx0 : ∀ t : Fin cfg0.N, win0_0.index t = ![t.val % 8, 0] ∧ win0_1.index t = ![0, 0] ∧ win0_2.index t = ![0, 0]
    ∧ win0_3.index t = ![0, 0] ∧ win0_4.index t = ![t.val / 8, t.val % 8, 0] ∧ win0_5.index t = ![t.val / 8, t.val % 8, 0]
    ∧ win0_6.index t = ![t.val / 8, t.val % 8, 0] ∧ t.val / 8 < 3 :=
  (by decide +kernel : ∀ t : Fin grid0.N, _)

theorem read0_0 (c : Dev nD) (t : Fin cfg0.N) (r : Fin 256) (x : Fin 2048) (hr : t.val % 8 * 256 + r.val < 2048) :
    (iblk0 V c 0 t : FVec Ideal S256x2048 .f32) (ix2 r x) = (V c main_v0 : FVec Ideal S2048x2048 .f32) (ix2 ⟨t.val % 8 * 256 + r.val, hr⟩ x) := by
  blk_ext [iblk0, idx0 t]
theorem read0_4 (c : Dev nD) (t : Fin cfg0.N) (r : Fin 256) (d : Fin 128) (ht : t.val / 8 < 3) (hr : t.val % 8 * 256 + r.val < 2048) :
    (iblk0 V c 4 t : FVec Ideal S1x256x128 .f32) (ix3 0 r d) = (V c main_v19 : FVec Ideal S3x2048x128 .f32) (ix3 ⟨t.val / 8, ht⟩ ⟨t.val % 8 * 256 + r.val, hr⟩ d) := by
  blk_ext [iblk0, idx0 t]
theorem read0_5 (c : Dev nD) (t : Fin cfg0.N) (r : Fin 256) (d : Fin 128) (ht : t.val / 8 < 3) (hr : t.val % 8 * 256 + r.val < 2048) :
    (iblk0 V c 5 t : FVec Ideal S1x256x128 .f32) (ix3 0 r d) = (V c main_v25 : FVec Ideal S3x2048x128 .f32) (ix3 ⟨t.val / 8, ht⟩ ⟨t.val % 8 * 256 + r.val, hr⟩ d) := by
  blk_ext [iblk0, idx0 t]
theorem read0_1 (c : Dev nD) (t : Fin cfg0.N) : (iblk0 V c 1 t : FVec Ideal S2048x2048 .f32) = V c main_arg1 := by
  blk_ext! [iblk0, idx0 t]
theorem read0_2 (c : Dev nD) (t : Fin cfg0.N) : (iblk0 V c 2 t : FVec Ideal S2048x2048 .f32) = V c main_arg2 := by
  blk_ext! [iblk0, idx0 t]
theorem read0_3 (c : Dev nD) (t : Fin cfg0.N) : (iblk0 V c 3 t : FVec Ideal S2048x2048 .f32) = V c main_arg3 := by
  blk_ext! [iblk0, idx0 t]

/-- The body's block at point `t`, whichever of the three matrices it multiplies by. -/
theorem point0 (c : Dev nD) (t : Fin cfg0.N) (W : FVec Ideal S2048x2048 .f32) (Wq Wk Wv : FVec Ideal S2048x2048 .f32)
    (hW : W = if t.val / 8 = 0 then Wq else if t.val / 8 = 1 then Wk else Wv) (y : S1x256x2048.Idx) :
    k0_pay4 (iblk0 V c 0 t) (iblk0 V c 4 t) (iblk0 V c 5 t) W y
      = qkvOf (V c main_v0) Wq Wk Wv (V c main_v19) (V c main_v25) (((cfg0.win 6).blk t).view.emb y) := by
  obtain ⟨z, r, e, rfl⟩ : ∃ (z : Fin 1) (r : Fin 256) (e : Fin 2048), y = ix3 z r e := ⟨y 0, y 1, y 2, by blk_ext⟩
  have ht := (idx0 t).2.2.2.2.2.2.2
  have hr : t.val % 8 * 256 + r.val < 2048 := by omega
  have hi : ((cfg0.win 6).blk t).view.emb (ix3 z r e) = ix3 (⟨t.val / 8, ht⟩ : Fin 3) (⟨t.val % 8 * 256 + r.val, hr⟩ : Fin 2048) e := by
    blk_ext [idx0 t]
  refine (proj_at _ _ _ _ z r e).trans ?_
  refine Eq.trans ?_ (congrArg (qkvOf (V c main_v0) Wq Wk Wv (V c main_v19) (V c main_v25)) hi.symm)
  simp only [read0_0 V c t r _ hr, read0_4 V c t r _ ht hr, read0_5 V c t r _ ht hr]
  subst hW
  rfl

theorem final0 (c : Dev nD) : (dat0 V c).arrAt 6 cfg0.N
    = qkvOf (V c main_v0) (V c main_arg1) (V c main_arg2) (V c main_arg3) (V c main_v19) (V c main_v25) := by
  refine (dat0 V c).arrAt_eq_of_covers 6 _ (by decide +kernel) fun t _ y => ?_
  have ht := (idx0 t).2.2.2.2.2.2.2
  blk_simp
  rw [after0_6]
  by_cases h0 : t.val < 8
  · rw [outsAt0_A V c t h0 (by omega) (by omega)]; frame_out
    exact point0 V c t _ _ _ _ (by rw [read0_1, if_pos (by omega)]) y
  · by_cases h1 : t.val < 16
    · rw [outsAt0_B V c t (by omega) (by omega) (by omega)]; frame_out
      exact point0 V c t _ _ _ _ (by rw [read0_2, if_neg (by omega), if_pos (by omega)]) y
    · rw [outsAt0_C V c t (by omega) (by omega) (by omega)]; frame_out
      exact point0 V c t _ _ _ _ (by rw [read0_3, if_neg (by omega), if_neg (by omega)]) y

end Cert.KernelIdeal.Value
-- ==== Proof.Value.AttnStrip.lean ====
module

public import proofs.«01_k».proof.Proof.Ideal.Whole
public import proofs.«01_k».proof.Proof.Value.Maths
public import Idealize.ShloMosaic.Lib.Pipeline.ValueKit

/-! The second region, one strip of rows: the stored block is the four aggregators of those rows, and the two scratch fills. -/

@[expose] public section

set_option maxRecDepth 16384

noncomputable section

namespace Cert.KernelIdeal.Value

open Cert.KernelIdeal.Gen Cert.KernelIdeal.Run Cert.Maths
open Idealize.ShloMosaic Idealize.ShloMosaic.TcCoe Idealize.ShloMosaic.Tactic
open Idealize.ShloMosaic.Pipeline (Dat Cfg Window cellOf)

/-- The matrix the strips multiply by: the values, their squares, a block of ones. -/
def vvf (v : Fin 2048 → Fin 128 → EReal) (j : Fin 2048) (d : Fin 384) : EReal :=
  if h : d.val < 128 then v j ⟨d.val, h⟩
  else if h : d.val - 128 < 128 then v j ⟨d.val - 128, h⟩ * v j ⟨d.val - 128, h⟩ else 1

theorem vvf_v (v : Fin 2048 → Fin 128 → EReal) (d : ℕ) (h : d < 128) :
    (fun j => vvf v j ⟨d, by omega⟩) = fun j => v j ⟨d, h⟩ := by
  funext j; unfold vvf; rw [dif_pos (show (⟨d, by omega⟩ : Fin 384).val < 128 from h)]

theorem vvf_sq (v : Fin 2048 → Fin 128 → EReal) (d : ℕ) (h : d < 128) :
    (fun j => vvf v j ⟨128 + d, by omega⟩) = fun j => v j ⟨d, h⟩ * v j ⟨d, h⟩ := by
  funext j; unfold vvf
  rw [dif_neg (by dsimp only; omega), dif_pos (by dsimp only; omega)]
  have : (⟨128 + d - 128, by omega⟩ : Fin 128) = ⟨d, h⟩ := Fin.ext (by dsimp only; omega)
  simp only [this]

theorem vvf_one (v : Fin 2048 → Fin 128 → EReal) : (fun j => vvf v j 256) = fun _ => 1 := by
  funext j; unfold vvf
  rw [dif_neg (by decide), dif_neg (by decide)]

/-- The additive causal bias of a diagonal block. -/
theorem bias_eq (s : EReal) (r b : ℕ) (hr : r < 512) (hb : b < 512) :
    Ideal.exp (s + Scalar.select (IntOp.cmpi .sge (BitVec.ofNat 32 r) (BitVec.ofNat 32 b)) (0 : EReal) (Named.named (F := Ideal) κ "neg" (φ := .f32) 4048155338#32))
      = if b ≤ r then Ideal.exp s else 0 := by
  rw [show Named.named (F := Ideal) κ "neg" (φ := .f32) 4048155338#32 = (⊥ : EReal) from rfl, WordCmp.cmpi_sge_ofNat (by omega) (by omega)]
  by_cases h : b ≤ r
  · rw [if_pos h, decide_eq_true h]; exact congrArg Ideal.exp (add_zero s)
  · rw [if_neg h, decide_eq_false h]; exact (congrArg Ideal.exp (EReal.add_bot s)).trans rfl

/-- A strip's total: the unmasked prefix and the diagonal block are the causal total. -/
theorem tot_strip (q k v : Fin 2048 → Fin 128 → EReal) (w : ℕ) (hw : w + 512 ≤ 2048) (r : Fin 512) (d : Fin 384) :
    (∑ x : Fin w, Ideal.exp (∑ x_1, q ⟨w + r.val, by omega⟩ x_1 * k ⟨x.val, by omega⟩ x_1) * vvf v ⟨x.val, by omega⟩ d)
      + (∑ x : Fin 512, Ideal.exp ((∑ x_1, q ⟨w + r.val, by omega⟩ x_1 * k ⟨w + x.val, by omega⟩ x_1)
          + Scalar.select (IntOp.cmpi .sge (BitVec.ofNat 32 r.val) (BitVec.ofNat 32 x.val)) (0 : EReal) (Named.named (F := Ideal) κ "neg" (φ := .f32) 4048155338#32))
          * vvf v ⟨w + x.val, by omega⟩ d)
      = tot q k (fun j => vvf v j d) ⟨w + r.val, by omega⟩ := by
  unfold tot
  rw [← sum_split hw (fun j => wt q k ⟨w + r.val, by omega⟩ j * vvf v j d) (fun j hj => by
    unfold wt; rw [if_neg (by dsimp only; omega), zero_mul])]
  refine congrArg₂ (· + ·) (Finset.sum_congr rfl fun a _ => ?_) (Finset.sum_congr rfl fun b _ => ?_)
  · unfold wt; rw [if_pos (by dsimp only; omega)]; rfl
  · unfold wt; rw [bias_eq _ _ _ r.isLt b.isLt]
    by_cases h : b.val ≤ r.val
    · rw [if_pos h, if_pos (by dsimp only; omega)]; rfl
    · rw [if_neg h, if_neg (by dsimp only; omega)]

/-- Strip 1. -/
theorem pay5_at (q k v : Fin 2048 → Fin 128 → EReal) (v9 : Vec Ideal S1x512x128 .bf16) (v23 : Vec Ideal S1x2048x128 .bf16)
    (v33 : Vec Ideal S1024x384 .bf16) (v52 : Vec Ideal S512x128 .bf16)
    (hq : ∀ (r : Fin 512) d, v9 (ix3 0 r d) = q ⟨512 + r.val, by omega⟩ d) (hk : ∀ j d, v23 (ix3 0 j d) = k j d)
    (hv : ∀ (j : Fin 1024) d, v33 (ix2 j d) = vvf v ⟨j.val, by omega⟩ d) (hc : ∀ (r : Fin 512) d, v52 (ix2 r d) = win v 2048 ⟨512 + r.val, by omega⟩ d)
    (z : Fin 1) (r : Fin 512) (e : Fin 512) : k1_pay5 v9 v23 v33 v52 (ix3 z r e) = agg q k v ⟨512 + r.val, by omega⟩ e := by
  pointwise [k1_pay5, k1_pay2, k1_pay3, k1_pay8]
  simp only [hq, hk, hv, hc]
  have hT := tot_strip q k v 512 (by omega) r
  simp only [hT]
  unfold agg sm vr
  split
  · rename_i h; simp only [vvf_v v _ h, vvf_one]
  · split
    · rename_i h0 h; simp only [vvf_v v _ h, vvf_one]; rfl
    · split
      · rfl
      · rename_i h0 h1 h; simp only [vvf_v v _ (show e.val - 128 - 128 - 128 < 128 by omega), vvf_sq v _ (show e.val - 128 - 128 - 128 < 128 by omega), vvf_one]; rfl

/-- Strip 2. -/
theorem pay6_at (q k v : Fin 2048 → Fin 128 → EReal) (v9 : Vec Ideal S1x512x128 .bf16) (v23 : Vec Ideal S1x2048x128 .bf16)
    (v33 : Vec Ideal S1536x384 .bf16) (v52 : Vec Ideal S512x128 .bf16)
    (hq : ∀ (r : Fin 512) d, v9 (ix3 0 r d) = q ⟨1024 + r.val, by omega⟩ d) (hk : ∀ j d, v23 (ix3 0 j d) = k j d)
    (hv : ∀ (j : Fin 1536) d, v33 (ix2 j d) = vvf v ⟨j.val, by omega⟩ d) (hc : ∀ (r : Fin 512) d, v52 (ix2 r d) = win v 2048 ⟨1024 + r.val, by omega⟩ d)
    (z : Fin 1) (r : Fin 512) (e : Fin 512) : k1_pay6 v9 v23 v33 v52 (ix3 z r e) = agg q k v ⟨1024 + r.val, by omega⟩ e := by
  pointwise [k1_pay6, k1_pay2, k1_pay3, k1_pay8]
  simp only [hq, hk, hv, hc]
  have hT := tot_strip q k v 1024 (by omega) r
  simp only [hT]
  unfold agg sm vr
  split
  · rename_i h; simp only [vvf_v v _ h, vvf_one]
  · split
    · rename_i h0 h; simp only [vvf_v v _ h, vvf_one]; rfl
    · split
      · rfl
      · rename_i h0 h1 h; simp only [vvf_v v _ (show e.val - 128 - 128 - 128 < 128 by omega), vvf_sq v _ (show e.val - 128 - 128 - 128 < 128 by omega), vvf_one]; rfl

/-- Strip 3. -/
theorem pay7_at (q k v : Fin 2048 → Fin 128 → EReal) (v9 : Vec Ideal S1x512x128 .bf16) (v23 : Vec Ideal S1x2048x128 .bf16)
    (v33 : Vec Ideal S2048x384 .bf16) (v52 : Vec Ideal S512x128 .bf16)
    (hq : ∀ (r : Fin 512) d, v9 (ix3 0 r d) = q ⟨1536 + r.val, by omega⟩ d) (hk : ∀ j d, v23 (ix3 0 j d) = k j d)
    (hv : ∀ (j : Fin 2048) d, v33 (ix2 j d) = vvf v ⟨j.val, by omega⟩ d) (hc : ∀ (r : Fin 512) d, v52 (ix2 r d) = win v 2048 ⟨1536 + r.val, by omega⟩ d)
    (z : Fin 1) (r : Fin 512) (e : Fin 512) : k1_pay7 v9 v23 v33 v52 (ix3 z r e) = agg q k v ⟨1536 + r.val, by omega⟩ e := by
  pointwise [k1_pay7, k1_pay2, k1_pay3, k1_pay8]
  simp only [hq, hk, hv, hc]
  have hT := tot_strip q k v 1536 (by omega) r
  simp only [hT]
  unfold agg sm vr
  split
  · rename_i h; simp only [vvf_v v _ h, vvf_one]
  · split
    · rename_i h0 h; simp only [vvf_v v _ h, vvf_one]; rfl
    · split
      · rfl
      · rename_i h0 h1 h; simp only [vvf_v v _ (show e.val - 128 - 128 - 128 < 128 by omega), vvf_sq v _ (show e.val - 128 - 128 - 128 < 128 by omega), vvf_one]; rfl

/-- The first strip's total has no prefix. -/
theorem tot_first (q k v : Fin 2048 → Fin 128 → EReal) (r : Fin 512) (d : Fin 384) :
    (∑ x : Fin 512, Ideal.exp ((∑ x_1, q ⟨r.val, by omega⟩ x_1 * k ⟨x.val, by omega⟩ x_1)
          + Scalar.select (IntOp.cmpi .sge (BitVec.ofNat 32 r.val) (BitVec.ofNat 32 x.val)) (0 : EReal) (Named.named (F := Ideal) κ "neg" (φ := .f32) 4048155338#32))
          * vvf v ⟨x.val, by omega⟩ d)
      = tot q k (fun j => vvf v j d) ⟨r.val, by omega⟩ := by
  unfold tot
  rw [← sum_first (show 512 ≤ 2048 by omega) (fun j => wt q k ⟨r.val, by omega⟩ j * vvf v j d) (fun j hj => by
    unfold wt; rw [if_neg (by dsimp only; omega), zero_mul])]
  refine Finset.sum_congr rfl fun b _ => ?_
  unfold wt; rw [bias_eq _ _ _ r.isLt b.isLt]
  by_cases h : b.val ≤ r.val
  · rw [if_pos h, if_pos (by dsimp only; omega)]; rfl
  · rw [if_neg h, if_neg (by dsimp only; omega)]

/-- Strip 0. -/
theorem pay4_at (q k v : Fin 2048 → Fin 128 → EReal) (v9 : Vec Ideal S1x512x128 .bf16) (v23 : Vec Ideal S1x2048x128 .bf16)
    (v33 : Vec Ideal S512x384 .bf16) (v52 : Vec Ideal S512x128 .bf16)
    (hq : ∀ (r : Fin 512) d, v9 (ix3 0 r d) = q ⟨r.val, by omega⟩ d) (hk : ∀ j d, v23 (ix3 0 j d) = k j d)
    (hv : ∀ (j : Fin 512) d, v33 (ix2 j d) = vvf v ⟨j.val, by omega⟩ d) (hc : ∀ (r : Fin 512) d, v52 (ix2 r d) = win v 2048 ⟨r.val, by omega⟩ d)
    (z : Fin 1) (r : Fin 512) (e : Fin 512) : k1_pay4 v9 v23 v33 v52 (ix3 z r e) = agg q k v ⟨r.val, by omega⟩ e := by
  pointwise [k1_pay4, k1_pay2, k1_pay3, k1_pay8]
  simp only [hq, hk, hv, hc]
  have hT := tot_first q k v r
  simp only [hT]
  unfold agg sm vr
  split
  · rename_i h; simp only [vvf_v v _ h, vvf_one]
  · split
    · rename_i h0 h; simp only [vvf_v v _ h, vvf_one]; rfl
    · split
      · rfl
      · rename_i h0 h1 h; simp only [vvf_v v _ (show e.val - 128 - 128 - 128 < 128 by omega), vvf_sq v _ (show e.val - 128 - 128 - 128 < 128 by omega), vvf_one]; rfl

theorem win_step1 (v : Fin 2048 → Fin 128 → EReal) (x : FVec Ideal S2048x128 .bf16) (hx : ∀ r d, x (ix2 r d) = win v 1 r d) (r : Fin 2048) (d : Fin 128) :
    maximumf x (concatenate S2048x128 0 [⟨S1x128, broadcast S1x128 (Named.named (F := Ideal) κ "neg" (φ := .bf16) 0xF14A#16)⟩,
      ⟨S2047x128, extractStridedSlice S2047x128 ![0, 0] x slices_S2048x128_o0_0_S2047x128⟩] concatenates_S1x128_S2047x128_S2048x128_d0) (ix2 r d) = win v 2 r d := by
  pointwise
  simp only [hx]
  exact win_double v 1 r d _ rfl

theorem win_step2 (v : Fin 2048 → Fin 128 → EReal) (x : FVec Ideal S2048x128 .bf16) (hx : ∀ r d, x (ix2 r d) = win v 2 r d) (r : Fin 2048) (d : Fin 128) :
    maximumf x (concatenate S2048x128 0 [⟨S2x128, broadcast S2x128 (Named.named (F := Ideal) κ "neg" (φ := .bf16) 0xF14A#16)⟩,
      ⟨S2046x128, extractStridedSlice S2046x128 ![0, 0] x slices_S2048x128_o0_0_S2046x128⟩] concatenates_S2x128_S2046x128_S2048x128_d0) (ix2 r d) = win v 4 r d := by
  pointwise
  simp only [hx]
  exact win_double v 2 r d _ rfl

theorem win_step4 (v : Fin 2048 → Fin 128 → EReal) (x : FVec Ideal S2048x128 .bf16) (hx : ∀ r d, x (ix2 r d) = win v 4 r d) (r : Fin 2048) (d : Fin 128) :
    maximumf x (concatenate S2048x128 0 [⟨S4x128, broadcast S4x128 (Named.named (F := Ideal) κ "neg" (φ := .bf16) 0xF14A#16)⟩,
      ⟨S2044x128, extractStridedSlice S2044x128 ![0, 0] x slices_S2048x128_o0_0_S2044x128⟩] concatenates_S4x128_S2044x128_S2048x128_d0) (ix2 r d) = win v 8 r d := by
  pointwise
  simp only [hx]
  exact win_double v 4 r d _ rfl

theorem win_step8 (v : Fin 2048 → Fin 128 → EReal) (x : FVec Ideal S2048x128 .bf16) (hx : ∀ r d, x (ix2 r d) = win v 8 r d) (r : Fin 2048) (d : Fin 128) :
    maximumf x (concatenate S2048x128 0 [⟨S8x128, broadcast S8x128 (Named.named (F := Ideal) κ "neg" (φ := .bf16) 0xF14A#16)⟩,
      ⟨S2040x128, extractStridedSlice S2040x128 ![0, 0] x slices_S2048x128_o0_0_S2040x128⟩] concatenates_S8x128_S2040x128_S2048x128_d0) (ix2 r d) = win v 16 r d := by
  pointwise
  simp only [hx]
  exact win_double v 8 r d _ rfl

theorem win_step16 (v : Fin 2048 → Fin 128 → EReal) (x : FVec Ideal S2048x128 .bf16) (hx : ∀ r d, x (ix2 r d) = win v 16 r d) (r : Fin 2048) (d : Fin 128) :
    maximumf x (concatenate S2048x128 0 [⟨S16x128, broadcast S16x128 (Named.named (F := Ideal) κ "neg" (φ := .bf16) 0xF14A#16)⟩,
      ⟨S2032x128, extractStridedSlice S2032x128 ![0, 0] x slices_S2048x128_o0_0_S2032x128⟩] concatenates_S16x128_S2032x128_S2048x128_d0) (ix2 r d) = win v 32 r d := by
  pointwise
  simp only [hx]
  exact win_double v 16 r d _ rfl

theorem win_step32 (v : Fin 2048 → Fin 128 → EReal) (x : FVec Ideal S2048x128 .bf16) (hx : ∀ r d, x (ix2 r d) = win v 32 r d) (r : Fin 2048) (d : Fin 128) :
    maximumf x (concatenate S2048x128 0 [⟨S32x128, broadcast S32x128 (Named.named (F := Ideal) κ "neg" (φ := .bf16) 0xF14A#16)⟩,
      ⟨S2016x128, extractStridedSlice S2016x128 ![0, 0] x slices_S2048x128_o0_0_S2016x128⟩] concatenates_S32x128_S2016x128_S2048x128_d0) (ix2 r d) = win v 64 r d := by
  pointwise
  simp only [hx]
  exact win_double v 32 r d _ rfl

theorem win_step64 (v : Fin 2048 → Fin 128 → EReal) (x : FVec Ideal S2048x128 .bf16) (hx : ∀ r d, x (ix2 r d) = win v 64 r d) (r : Fin 2048) (d : Fin 128) :
    maximumf x (concatenate S2048x128 0 [⟨S64x128, broadcast S64x128 (Named.named (F := Ideal) κ "neg" (φ := .bf16) 0xF14A#16)⟩,
      ⟨S1984x128, extractStridedSlice S1984x128 ![0, 0] x slices_S2048x128_o0_0_S1984x128⟩] concatenates_S64x128_S1984x128_S2048x128_d0) (ix2 r d) = win v 128 r d := by
  pointwise
  simp only [hx]
  exact win_double v 64 r d _ rfl

theorem win_step128 (v : Fin 2048 → Fin 128 → EReal) (x : FVec Ideal S2048x128 .bf16) (hx : ∀ r d, x (ix2 r d) = win v 128 r d) (r : Fin 2048) (d : Fin 128) :
    maximumf x (concatenate S2048x128 0 [⟨S128x128, broadcast S128x128 (Named.named (F := Ideal) κ "neg" (φ := .bf16) 0xF14A#16)⟩,
      ⟨S1920x128, extractStridedSlice S1920x128 ![0, 0] x slices_S2048x128_o0_0_S1920x128⟩] concatenates_S128x128_S1920x128_S2048x128_d0) (ix2 r d) = win v 256 r d := by
  pointwise
  simp only [hx]
  exact win_double v 128 r d _ rfl

theorem win_step256 (v : Fin 2048 → Fin 128 → EReal) (x : FVec Ideal S2048x128 .bf16) (hx : ∀ r d, x (ix2 r d) = win v 256 r d) (r : Fin 2048) (d : Fin 128) :
    maximumf x (concatenate S2048x128 0 [⟨S256x128, broadcast S256x128 (Named.named (F := Ideal) κ "neg" (φ := .bf16) 0xF14A#16)⟩,
      ⟨S1792x128, extractStridedSlice S1792x128 ![0, 0] x slices_S2048x128_o0_0_S1792x128⟩] concatenates_S256x128_S1792x128_S2048x128_d0) (ix2 r d) = win v 512 r d := by
  pointwise
  simp only [hx]
  exact win_double v 256 r d _ rfl

theorem win_step512 (v : Fin 2048 → Fin 128 → EReal) (x : FVec Ideal S2048x128 .bf16) (hx : ∀ r d, x (ix2 r d) = win v 512 r d) (r : Fin 2048) (d : Fin 128) :
    maximumf x (concatenate S2048x128 0 [⟨S512x128, broadcast S512x128 (Named.named (F := Ideal) κ "neg" (φ := .bf16) 0xF14A#16)⟩,
      ⟨S1536x128, extractStridedSlice S1536x128 ![0, 0] x slices_S2048x128_o0_0_S1536x128⟩] concatenates_S512x128_S1536x128_S2048x128_d0) (ix2 r d) = win v 1024 r d := by
  pointwise
  simp only [hx]
  exact win_double v 512 r d _ rfl

theorem win_step1024 (v : Fin 2048 → Fin 128 → EReal) (x : FVec Ideal S2048x128 .bf16) (hx : ∀ r d, x (ix2 r d) = win v 1024 r d) (r : Fin 2048) (d : Fin 128) :
    maximumf x (concatenate S2048x128 0 [⟨S1024x128, broadcast S1024x128 (Named.named (F := Ideal) κ "neg" (φ := .bf16) 0xF14A#16)⟩,
      ⟨S1024x128, extractStridedSlice S1024x128 ![0, 0] x slices_S2048x128_o0_0_S1024x128⟩] concatenates_S1024x128_S1024x128_S2048x128_d0) (ix2 r d) = win v 2048 r d := by
  pointwise
  simp only [hx]
  exact win_double v 1024 r d _ rfl

/-- The running maximum as the fill computes it: eleven doublings of the window. -/
theorem fill_max (v : Fin 2048 → Fin 128 → EReal) (v23 : Vec Ideal S1x2048x128 .bf16) (h : ∀ r d, v23 (ix3 0 r d) = v r d)
    (r : Fin 2048) (d : Fin 128) : k1_pay1 (k1_pay12 v23) (k1_pay13 v23) (ix2 r d) = win v 2048 r d := by
  have h1 : ∀ r d, k1_pay8 v23 (ix2 r d) = win v 1 r d := by
    intro r d; rw [win_one, ← h]; pointwise [k1_pay8]
  have h64 : ∀ r d, k1_pay12 v23 (ix2 r d) = win v 64 r d := win_step32 v _ (win_step16 v _ (win_step8 v _ (win_step4 v _ (win_step2 v _ (win_step1 v _ (h1))))))
  have hl := win_step1024 v _ (win_step512 v _ (win_step256 v _ (win_step128 v _ (win_step64 v _ (h64))))) r d
  refine Eq.trans ?_ hl
  unfold k1_pay1
  rw [shapeCast_self]
  rfl

theorem fill_v (v : Fin 2048 → Fin 128 → EReal) (v23 : Vec Ideal S1x2048x128 .bf16) (h : ∀ r d, v23 (ix3 0 r d) = v r d)
    (r : Fin 2048) (d : Fin 128) : k1_pay9 v23 (ix2 r d) = v r d := by
  rw [← h]; pointwise [k1_pay9, k1_pay8]

theorem fill_sq (v : Fin 2048 → Fin 128 → EReal) (v23 : Vec Ideal S1x2048x128 .bf16) (h : ∀ r d, v23 (ix3 0 r d) = v r d)
    (r : Fin 2048) (d : Fin 128) : k1_pay10 v23 (ix2 r d) = v r d * v r d := by
  rw [← h]; pointwise [k1_pay10, k1_pay8]

theorem fill_one (r : Fin 2048) (d : Fin 128) : k1_pay11 (F := Ideal) (ix2 r d) = 1 := by
  pointwise [k1_pay11]

end Cert.KernelIdeal.Value
-- ==== Proof.Value.AttnValue.lean ====
module

public import proofs.«01_k».proof.Proof.Ideal.Whole
public import proofs.«01_k».proof.Proof.Value.AttnStrip
public import Idealize.ShloMosaic.Lib.Pipeline.ValueKit

/-! The second region: every strip of every head holds the four aggregators of its rows, so the whole output array is one function of the stacked projections. -/

@[expose] public section

set_option maxRecDepth 16384

noncomputable section

namespace Cert.KernelIdeal.Value

open Cert.KernelIdeal.Gen Cert.KernelIdeal.Run Cert.Maths
open Idealize.ShloMosaic Idealize.ShloMosaic.TcCoe Idealize.ShloMosaic.Tactic
open Idealize.ShloMosaic.Pipeline (Dat Cfg Window cellOf)

variable (V : (c : Dev nD) → (b : Ref sig .tc) → Buf (Elt Ideal) ((c : Thread nD τ).loc b))

/-- Head `h` of part `p` of the stacked projections. -/
def headOf (Q : FVec Ideal S3x2048x2048 .bf16) (p : Fin 3) (h : ℕ) (hh : h < 16) (r : Fin 2048) (d : Fin 128) : EReal :=
  Q (ix3 p r ⟨h * 128 + d.val, by omega⟩)

/-- What the second region computes of the stacked projections. -/
def aggOf (Q : FVec Ideal S3x2048x2048 .bf16) : FVec Ideal S16x2048x512 .bf16 := fun i =>
  agg (headOf Q 0 (i 0).val (i 0).isLt) (headOf Q 1 (i 0).val (i 0).isLt) (headOf Q 2 (i 0).val (i 0).isLt) (i 1) (i 2)

theorem idx1 : ∀ t : Fin cfg1.N, win1_0.index t = ![0, t.val % 4, t.val / 4] ∧ win1_1.index t = ![1, 0, t.val / 4]
    ∧ win1_2.index t = ![2, 0, t.val / 4] ∧ win1_3.index t = ![t.val / 4, t.val % 4, 0] ∧ t.val / 4 < 16 :=
  (by decide +kernel : ∀ t : Fin grid1.N, _)

theorem read1_0 (c : Dev nD) (t : Fin cfg1.N) (r : Fin 512) (d : Fin 128) :
    (iblk1 V c 0 t : FVec Ideal S1x512x128 .bf16) (ix3 0 r d)
      = headOf (V c main_v27) 0 (t.val / 4) (idx1 t).2.2.2.2 ⟨t.val % 4 * 512 + r.val, by omega⟩ d := by
  unfold headOf
  blk_ext [iblk1, idx1 t]

theorem read1_1 (c : Dev nD) (t : Fin cfg1.N) (r : Fin 2048) (d : Fin 128) :
    (iblk1 V c 1 t : FVec Ideal S1x2048x128 .bf16) (ix3 0 r d) = headOf (V c main_v27) 1 (t.val / 4) (idx1 t).2.2.2.2 r d := by
  unfold headOf
  blk_ext [iblk1, idx1 t]

theorem read1_2 (c : Dev nD) (t : Fin cfg1.N) (r : Fin 2048) (d : Fin 128) :
    (iblk1 V c 2 t : FVec Ideal S1x2048x128 .bf16) (ix3 0 r d) = headOf (V c main_v27) 2 (t.val / 4) (idx1 t).2.2.2.2 r d := by
  unfold headOf
  blk_ext [iblk1, idx1 t]

/-- The three stores of the first fill are the values, their squares and the ones. -/
theorem fill_canon (v : Fin 2048 → Fin 128 → EReal) (v23 : Vec Ideal S1x2048x128 .bf16) (hv : ∀ r d, v23 (ix3 0 r d) = v r d)
    (r : Fin 2048) (d : Fin 384) :
    View.canon (Val := Elt Ideal) (e := .bf16) [⟨Rect.unit (s := S2048x384) ![0, 256] ![2048, 128] inb_S2048x384_S2048x128_0_256, k1_pay11 (F := Ideal)⟩,
        ⟨Rect.unit (s := S2048x384) ![0, 128] ![2048, 128] inb_S2048x384_S2048x128_0_128, k1_pay10 v23⟩,
        ⟨Rect.unit (s := S2048x384) ![0, 0] ![2048, 128] inb_S2048x384_S2048x128_0_0, k1_pay9 v23⟩] (ix2 r d) = vvf v r d := by
  unfold vvf
  canon_tiles x h
  case piece0 =>
    have h0' : r.val = (x 0).val := h0
    have h1' : d.val = 256 + (x 1).val := h1
    obtain ⟨a, b, rfl⟩ : ∃ (a : Fin 2048) (b : Fin 128), x = ix2 a b := ⟨x 0, x 1, by blk_ext⟩
    have h1'' : d.val = 256 + b.val := h1'
    rw [fill_one, dif_neg (by omega), dif_neg (by omega)]
  case piece1 =>
    have h0' : r.val = (x 0).val := h0
    have h1' : d.val = 128 + (x 1).val := h1
    obtain ⟨a, b, rfl⟩ : ∃ (a : Fin 2048) (b : Fin 128), x = ix2 a b := ⟨x 0, x 1, by blk_ext⟩
    have h1'' : d.val = 128 + b.val := h1'
    obtain rfl : r = a := Fin.ext h0'
    rw [fill_sq v v23 hv, dif_neg (by omega), dif_pos (by omega)]
    have : (⟨d.val - 128, by omega⟩ : Fin 128) = b := Fin.ext (by dsimp only; omega)
    simp only [this]
  case piece2 =>
    have h0' : r.val = (x 0).val := h0
    have h1' : d.val = 0 + (x 1).val := by rw [Nat.zero_add]; exact h1
    obtain ⟨a, b, rfl⟩ : ∃ (a : Fin 2048) (b : Fin 128), x = ix2 a b := ⟨x 0, x 1, by blk_ext⟩
    have h1'' : d.val = 0 + b.val := h1'
    obtain rfl : r = a := Fin.ext h0'
    rw [fill_v v v23 hv, dif_pos (by omega)]
    have : (⟨d.val, by omega⟩ : Fin 128) = b := Fin.ext (by dsimp only; omega)
    simp only [this]

/-- The first strip of a head leaves the values' matrix in the first scratch. -/
theorem fill0 (c : Dev nD) (t : Fin cfg1.N) (h0 : t.val % 4 = 0) (r : Fin 2048) (d : Fin 384) :
    (outsAt1 V c t.val t.isLt).2.1 (ix2 r d) = vvf (headOf (V c main_v27) 2 (t.val / 4) (idx1 t).2.2.2.2) r d := by
  rw [outsAt1_A V c t h0 h0 (by omega) (by omega) (by omega)]
  frame_out
  exact fill_canon _ _ (fun r d => read1_2 V c t r d) r d

/-- The first strip of a head leaves the running maximum in the second scratch. -/
theorem max0 (c : Dev nD) (t : Fin cfg1.N) (h0 : t.val % 4 = 0) (r : Fin 2048) (d : Fin 128) :
    (outsAt1 V c t.val t.isLt).2.2 (ix2 r d) = win (headOf (V c main_v27) 2 (t.val / 4) (idx1 t).2.2.2.2) 2048 r d := by
  rw [outsAt1_A V c t h0 h0 (by omega) (by omega) (by omega)]
  frame_out
  exact fill_max _ _ (fun r d => read1_2 V c t r d) r d

/-- Head `h` of the values, as the scratch buffers of that head's strips hold it. -/
abbrev vHead (c : Dev nD) (t : Fin cfg1.N) : Fin 2048 → Fin 128 → EReal := headOf (V c main_v27) 2 (t.val / 4) (idx1 t).2.2.2.2

/-- Both scratch buffers hold their fills at every point, the later strips leaving them as they were. -/
theorem held (c : Dev nD) : ∀ (n : ℕ) (t : Fin cfg1.N), t.val = n →
    (∀ r d, (outsAt1 V c t.val t.isLt).2.1 (ix2 r d) = vvf (vHead V c t) r d)
      ∧ ∀ r d, (outsAt1 V c t.val t.isLt).2.2 (ix2 r d) = win (vHead V c t) 2048 r d := by
  intro n
  induction n with
  | zero => intro t ht; exact ⟨fill0 V c t (by omega), max0 V c t (by omega)⟩
  | succ n ih =>
    intro t ht
    by_cases h0 : t.val % 4 = 0
    · exact ⟨fill0 V c t h0, max0 V c t h0⟩
    · have hp := ih ⟨t.val - 1, Nat.lt_of_le_of_lt (Nat.sub_le _ _) t.isLt⟩ (by dsimp only; omega)
      have hh : vHead V c ⟨t.val - 1, Nat.lt_of_le_of_lt (Nat.sub_le _ _) t.isLt⟩ = vHead V c t := by
        funext r d
        unfold vHead headOf
        have : (t.val - 1) / 4 = t.val / 4 := by omega
        simp only [this]
      rw [hh] at hp
      by_cases h1 : t.val % 4 = 1
      · rw [outsAt1_B V c t (by omega) (by omega) (by omega) (by omega) (by omega)]; exact hp
      · by_cases h2 : t.val % 4 = 2
        · rw [outsAt1_C V c t (by omega) (by omega) (by omega) (by omega) (by omega)]; exact hp
        · rw [outsAt1_D V c t (by omega) (by omega) (by omega) (by omega) (by omega)]; exact hp

/-- A row of a strip of the output array. -/
theorem emb1 (c : Dev nD) (t : Fin cfg1.N) (z : Fin 1) (r e : Fin 512) :
    aggOf (V c main_v27) (((cfg1.win 3).blk t).view.emb (ix3 z r e))
      = agg (headOf (V c main_v27) 0 (t.val / 4) (idx1 t).2.2.2.2) (headOf (V c main_v27) 1 (t.val / 4) (idx1 t).2.2.2.2) (vHead V c t) ⟨t.val % 4 * 512 + r.val, by omega⟩ e := by
  have ht := (idx1 t).2.2.2.2
  have hi : ((cfg1.win 3).blk t).view.emb (ix3 z r e) = ix3 (⟨t.val / 4, ht⟩ : Fin 16) (⟨t.val % 4 * 512 + r.val, by omega⟩ : Fin 2048) e := by
    blk_ext [idx1 t]
  exact (congrArg (aggOf (V c main_v27)) hi).trans rfl

theorem point1_0 (c : Dev nD) (t : Fin cfg1.N) (hs : t.val % 4 = 0) (v33 : Vec Ideal S512x384 .bf16) (v52 : Vec Ideal S512x128 .bf16)
    (hv : ∀ (j : Fin 512) d, v33 (ix2 j d) = vvf (vHead V c t) ⟨j.val, by omega⟩ d)
    (hc : ∀ (r : Fin 512) d, v52 (ix2 r d) = win (vHead V c t) 2048 ⟨r.val, by omega⟩ d) (y : S1x512x512.Idx) :
    k1_pay4 (iblk1 V c 0 t) (iblk1 V c 1 t) v33 v52 y = aggOf (V c main_v27) (((cfg1.win 3).blk t).view.emb y) := by
  obtain ⟨z, r, e, rfl⟩ : ∃ (z : Fin 1) (r : Fin 512) (e : Fin 512), y = ix3 z r e := ⟨y 0, y 1, y 2, by blk_ext⟩
  refine Eq.trans ?_ (emb1 V c t z r e).symm
  have hr : ∀ r : Fin 512, (⟨t.val % 4 * 512 + r.val, by omega⟩ : Fin 2048) = ⟨r.val, by omega⟩ := fun r => Fin.ext (by dsimp only; omega)
  rw [hr]
  exact pay4_at _ _ _ _ _ _ _ (fun r d => (read1_0 V c t r d).trans (by rw [hr])) (fun r d => read1_1 V c t r d) hv hc z r e

theorem point1_1 (c : Dev nD) (t : Fin cfg1.N) (hs : t.val % 4 = 1) (v33 : Vec Ideal S1024x384 .bf16) (v52 : Vec Ideal S512x128 .bf16)
    (hv : ∀ (j : Fin 1024) d, v33 (ix2 j d) = vvf (vHead V c t) ⟨j.val, by omega⟩ d)
    (hc : ∀ (r : Fin 512) d, v52 (ix2 r d) = win (vHead V c t) 2048 ⟨512 + r.val, by omega⟩ d) (y : S1x512x512.Idx) :
    k1_pay5 (iblk1 V c 0 t) (iblk1 V c 1 t) v33 v52 y = aggOf (V c main_v27) (((cfg1.win 3).blk t).view.emb y) := by
  obtain ⟨z, r, e, rfl⟩ : ∃ (z : Fin 1) (r : Fin 512) (e : Fin 512), y = ix3 z r e := ⟨y 0, y 1, y 2, by blk_ext⟩
  refine Eq.trans ?_ (emb1 V c t z r e).symm
  have hr : ∀ r : Fin 512, (⟨t.val % 4 * 512 + r.val, by omega⟩ : Fin 2048) = ⟨512 + r.val, by omega⟩ := fun r => Fin.ext (by dsimp only; omega)
  rw [hr]
  exact pay5_at _ _ _ _ _ _ _ (fun r d => (read1_0 V c t r d).trans (by rw [hr])) (fun r d => read1_1 V c t r d) hv hc z r e

theorem point1_2 (c : Dev nD) (t : Fin cfg1.N) (hs : t.val % 4 = 2) (v33 : Vec Ideal S1536x384 .bf16) (v52 : Vec Ideal S512x128 .bf16)
    (hv : ∀ (j : Fin 1536) d, v33 (ix2 j d) = vvf (vHead V c t) ⟨j.val, by omega⟩ d)
    (hc : ∀ (r : Fin 512) d, v52 (ix2 r d) = win (vHead V c t) 2048 ⟨1024 + r.val, by omega⟩ d) (y : S1x512x512.Idx) :
    k1_pay6 (iblk1 V c 0 t) (iblk1 V c 1 t) v33 v52 y = aggOf (V c main_v27) (((cfg1.win 3).blk t).view.emb y) := by
  obtain ⟨z, r, e, rfl⟩ : ∃ (z : Fin 1) (r : Fin 512) (e : Fin 512), y = ix3 z r e := ⟨y 0, y 1, y 2, by blk_ext⟩
  refine Eq.trans ?_ (emb1 V c t z r e).symm
  have hr : ∀ r : Fin 512, (⟨t.val % 4 * 512 + r.val, by omega⟩ : Fin 2048) = ⟨1024 + r.val, by omega⟩ := fun r => Fin.ext (by dsimp only; omega)
  rw [hr]
  exact pay6_at _ _ _ _ _ _ _ (fun r d => (read1_0 V c t r d).trans (by rw [hr])) (fun r d => read1_1 V c t r d) hv hc z r e

theorem point1_3 (c : Dev nD) (t : Fin cfg1.N) (hs : t.val % 4 = 3) (v33 : Vec Ideal S2048x384 .bf16) (v52 : Vec Ideal S512x128 .bf16)
    (hv : ∀ (j : Fin 2048) d, v33 (ix2 j d) = vvf (vHead V c t) ⟨j.val, by omega⟩ d)
    (hc : ∀ (r : Fin 512) d, v52 (ix2 r d) = win (vHead V c t) 2048 ⟨1536 + r.val, by omega⟩ d) (y : S1x512x512.Idx) :
    k1_pay7 (iblk1 V c 0 t) (iblk1 V c 1 t) v33 v52 y = aggOf (V c main_v27) (((cfg1.win 3).blk t).view.emb y) := by
  obtain ⟨z, r, e, rfl⟩ : ∃ (z : Fin 1) (r : Fin 512) (e : Fin 512), y = ix3 z r e := ⟨y 0, y 1, y 2, by blk_ext⟩
  refine Eq.trans ?_ (emb1 V c t z r e).symm
  have hr : ∀ r : Fin 512, (⟨t.val % 4 * 512 + r.val, by omega⟩ : Fin 2048) = ⟨1536 + r.val, by omega⟩ := fun r => Fin.ext (by dsimp only; omega)
  rw [hr]
  exact pay7_at _ _ _ _ _ _ _ (fun r d => (read1_0 V c t r d).trans (by rw [hr])) (fun r d => read1_1 V c t r d) hv hc z r e

theorem final1 (c : Dev nD) : (dat1 V c).arrAt 3 cfg1.N = aggOf (V c main_v27) := by
  refine (dat1 V c).arrAt_eq_of_covers 3 _ (by decide +kernel) fun t _ y => ?_
  have ht := (idx1 t).2.2.2.2
  blk_simp
  rw [after1_3]
  by_cases h0 : t.val % 4 = 0
  · rw [outsAt1_A V c t h0 (by omega) (by omega) (by omega) (by omega)]; frame_out
    refine point1_0 V c t h0 _ _ ?_ ?_ y
    · intro j d
      rw [View.readCov_eq_canon']
      refine Eq.trans (congrArg (View.canon _) (a₂ := ix2 (⟨j.val, by omega⟩ : Fin 2048) d) ?_) ?_
      · show (Rect.unit (s := S2048x384) ![0, 0] ![512, 384] inb_S2048x384_S512x384_0_0).emb (ix2 j d) = _
        blk_ext
      · exact fill_canon _ _ (fun r d => read1_2 V c t r d) _ d
    · intro j d
      rw [View.readCov_eq_canon']
      refine Eq.trans (congrArg (View.canon _) (a₂ := ix2 (⟨j.val, by omega⟩ : Fin 2048) d) ?_) ?_
      · show (Rect.unit (s := S2048x128) ![0, 0] ![512, 128] inb_S2048x128_S512x128_0_0).emb (ix2 j d) = _
        blk_ext
      · refine Eq.trans ?_ (max0 V c t h0 _ d)
        rw [outsAt1_A V c t h0 (by omega) (by omega) (by omega) (by omega)]; frame_out
  · have hp := held V c (t.val - 1) ⟨t.val - 1, Nat.lt_of_le_of_lt (Nat.sub_le _ _) t.isLt⟩ rfl
    have hh : vHead V c ⟨t.val - 1, Nat.lt_of_le_of_lt (Nat.sub_le _ _) t.isLt⟩ = vHead V c t := by
      funext r d
      unfold vHead headOf
      have : (t.val - 1) / 4 = t.val / 4 := by omega
      simp only [this]
    rw [hh] at hp
    have e0 : View.read (Elt Ideal) (View.whole cc1_scratch0) ((Memref.isWhole_whole cc1_scratch0).unread (outsAt1 V c (t.val - 1) (Nat.lt_of_le_of_lt (Nat.sub_le _ _) t.isLt)).2.1) = (outsAt1 V c (t.val - 1) (Nat.lt_of_le_of_lt (Nat.sub_le _ _) t.isLt)).2.1 :=
      Memref.IsWhole.read_unread _ _
    have e1 : View.read (Elt Ideal) (View.whole cc1_scratch1) ((Memref.isWhole_whole cc1_scratch1).unread (outsAt1 V c (t.val - 1) (Nat.lt_of_le_of_lt (Nat.sub_le _ _) t.isLt)).2.2) = (outsAt1 V c (t.val - 1) (Nat.lt_of_le_of_lt (Nat.sub_le _ _) t.isLt)).2.2 :=
      Memref.IsWhole.read_unread _ _
    by_cases h1 : t.val % 4 = 1
    · rw [outsAt1_B V c t (by omega) (by omega) (by omega) (by omega) (by omega)]; frame_out
      rw [e0, e1]
      refine point1_1 V c t (by omega) _ _ ?_ ?_ y
      · intro j d
        refine Eq.trans ?_ (hp.1 ⟨j.val, by omega⟩ d)
        pointwise
        blk_ext
      · intro j d
        refine Eq.trans ?_ (hp.2 ⟨512 + j.val, by omega⟩ d)
        pointwise
        blk_ext
    · by_cases h2 : t.val % 4 = 2
      · rw [outsAt1_C V c t (by omega) (by omega) (by omega) (by omega) (by omega)]; frame_out
        rw [e0, e1]
        refine point1_2 V c t (by omega) _ _ ?_ ?_ y
        · intro j d
          refine Eq.trans ?_ (hp.1 ⟨j.val, by omega⟩ d)
          pointwise
          blk_ext
        · intro j d
          refine Eq.trans ?_ (hp.2 ⟨1024 + j.val, by omega⟩ d)
          pointwise
          blk_ext
      · rw [outsAt1_D V c t (by omega) (by omega) (by omega) (by omega) (by omega)]; frame_out
        rw [e0, e1]
        refine point1_3 V c t (by omega) _ _ ?_ ?_ y
        · intro j d
          refine Eq.trans ?_ (hp.1 ⟨j.val, by omega⟩ d)
          pointwise
          blk_ext
        · intro j d
          refine Eq.trans ?_ (hp.2 ⟨1536 + j.val, by omega⟩ d)
          pointwise
          blk_ext

end Cert.KernelIdeal.Value
-- ==== Proof.Value.MlpValue.lean ====
module

public import proofs.«01_k».proof.Proof.Ideal.Whole
public import proofs.«01_k».proof.Proof.Value.Maths
public import Idealize.ShloMosaic.Lib.Pipeline.ValueKit

/-! The third region: its result array is the per-head network and the output projection of the arrays it reads. -/

@[expose] public section

set_option maxRecDepth 16384

noncomputable section

namespace Cert.KernelIdeal.Value

open Cert.KernelIdeal.Gen Cert.KernelIdeal.Run Cert.Maths
open Idealize.ShloMosaic Idealize.ShloMosaic.TcCoe Idealize.ShloMosaic.Tactic
open Idealize.ShloMosaic.Pipeline (Dat Cfg Window cellOf)

variable (V : (c : Dev nD) → (b : Ref sig .tc) → Buf (Elt Ideal) ((c : Thread nD τ).loc b))

/-- The windows' block indices. -/
theorem idx2 : ∀ t : Fin cfg2.N, win2_0.index t = ![0, t.val, 0] ∧ win2_1.index t = ![0, 0, 0] ∧ win2_2.index t = ![0, 0, 0]
    ∧ win2_3.index t = ![0, 0] ∧ win2_4.index t = ![t.val, 0] ∧ win2_5.index t = ![0]
    ∧ win2_6.index t = ![t.val, 0] ∧ t.val < 8 :=
  (by decide +kernel : ∀ t : Fin grid2.N, _)

/-- The hidden value of row `r`, head `h`, output lane `d`. -/
def hid (A : FVec Ideal S16x2048x512 .bf16) (w1 : FVec Ideal S16x512x256 .f32) (w2 : FVec Ideal S16x256x128 .f32)
    (r : Fin 2048) (h : Fin 16) (d : Fin 128) : EReal :=
  ∑ x : Fin 256, silu (∑ y : Fin 512, A (ix3 h r y) * w1 (ix3 h y x)) * w2 (ix3 h x d)

/-- The third region's result from its operands. -/
def outOf (A : FVec Ideal S16x2048x512 .bf16) (w1 : FVec Ideal S16x512x256 .f32) (w2 : FVec Ideal S16x256x128 .f32)
    (Wo X : FVec Ideal S2048x2048 .f32) (eps : FVec Ideal S1 .f32) : FVec Ideal S2048x2048 .f32 := fun i =>
  (∑ k : Fin 2048, hid A w1 w2 (i 0) ⟨k.val / 128, by omega⟩ ⟨k.val % 128, Nat.mod_lt _ (by decide)⟩ * Wo (ix2 k (i 1)))
    + eps (ix1 0) * X i

/-- One head's block of the scratch, from the head's slices. -/
theorem head_at (v0 : Vec Ideal S1x256x512 .bf16) (v2 : Vec Ideal S1x512x256 .f32) (v9 : Vec Ideal S1x256x128 .f32)
    (r : Fin 256) (e : Fin 128) :
    k2_pay3 v0 v2 v9 (ix2 r e)
      = ∑ x : Fin 256, silu (∑ y : Fin 512, v0 (ix3 0 r y) * v2 (ix3 0 y x)) * v9 (ix3 0 x e) := by
  pointwise [k2_pay3]
  rfl

/-- The same when the slices are loads of head `p` of the whole blocks. -/
theorem head_ld (B0 : Vec Ideal S16x256x512 .bf16) (B1 : Vec Ideal S16x512x256 .f32) (B2 : Vec Ideal S16x256x128 .f32)
    (p : ℕ) (hp : p < 16) (i0 i1 i2) (r : Fin 256) (e : Fin 128) :
    k2_pay3 (View.ld B0 (Rect.unit (s := S16x256x512) ![p, 0, 0] ![1, 256, 512] i0))
        (View.ld B1 (Rect.unit (s := S16x512x256) ![p, 0, 0] ![1, 512, 256] i1))
        (View.ld B2 (Rect.unit (s := S16x256x128) ![p, 0, 0] ![1, 256, 128] i2)) (ix2 r e)
      = ∑ x : Fin 256, silu (∑ y : Fin 512, B0 (ix3 ⟨p, hp⟩ r y) * B1 (ix3 ⟨p, hp⟩ y x)) * B2 (ix3 ⟨p, hp⟩ x e) := by
  refine (head_at _ _ _ r e).trans ?_
  have h0 : ∀ y : Fin 512, View.ld B0 (Rect.unit (s := S16x256x512) ![p, 0, 0] ![1, 256, 512] i0) (ix3 0 r y) = B0 (ix3 ⟨p, hp⟩ r y) := fun y => by
    pointwise; blk_ext
  have h1 : ∀ (y : Fin 512) (x : Fin 256), View.ld B1 (Rect.unit (s := S16x512x256) ![p, 0, 0] ![1, 512, 256] i1) (ix3 0 y x) = B1 (ix3 ⟨p, hp⟩ y x) := fun y x => by
    pointwise; blk_ext
  have h2 : ∀ x : Fin 256, View.ld B2 (Rect.unit (s := S16x256x128) ![p, 0, 0] ![1, 256, 128] i2) (ix3 0 x e) = B2 (ix3 ⟨p, hp⟩ x e) := fun x => by
    pointwise; blk_ext
  simp only [h0, h1, h2]

/-- The stored block at an index. -/
theorem out_at (v272 : Vec Ideal S256x2048 .bf16) (v273 : Vec Ideal S2048x2048 .f32) (v276 : Elt Ideal .f32) (v277 : Vec Ideal S256x2048 .f32)
    (r : Fin 256) (e : Fin 2048) : k2_pay2 (F := Ideal) v272 v273 v276 v277 (ix2 r e)
      = (∑ x : Fin 2048, v272 (ix2 r x) * v273 (ix2 x e)) + (show EReal from v276) * v277 (ix2 r e) := by
  pointwise [k2_pay2]

theorem read2_0 (c : Dev nD) (t : Fin cfg2.N) (h : Fin 16) (r : Fin 256) (x : Fin 512) (hr : t.val * 256 + r.val < 2048) :
    (iblk2 V c 0 t : FVec Ideal S16x256x512 .bf16) (ix3 h r x) = (V c main_v28 : FVec Ideal S16x2048x512 .bf16) (ix3 h ⟨t.val * 256 + r.val, hr⟩ x) := by
  blk_ext [iblk2, idx2 t]
theorem read2_4 (c : Dev nD) (t : Fin cfg2.N) (r : Fin 256) (x : Fin 2048) (hr : t.val * 256 + r.val < 2048) :
    (iblk2 V c 4 t : FVec Ideal S256x2048 .f32) (ix2 r x) = (V c main_v0 : FVec Ideal S2048x2048 .f32) (ix2 ⟨t.val * 256 + r.val, hr⟩ x) := by
  blk_ext [iblk2, idx2 t]
theorem read2_1 (c : Dev nD) (t : Fin cfg2.N) : (iblk2 V c 1 t : FVec Ideal S16x512x256 .f32) = V c main_arg5 := by
  blk_ext! [iblk2, idx2 t]
theorem read2_2 (c : Dev nD) (t : Fin cfg2.N) : (iblk2 V c 2 t : FVec Ideal S16x256x128 .f32) = V c main_arg6 := by
  blk_ext! [iblk2, idx2 t]
theorem read2_3 (c : Dev nD) (t : Fin cfg2.N) : (iblk2 V c 3 t : FVec Ideal S2048x2048 .f32) = V c main_arg4 := by
  blk_ext! [iblk2, idx2 t]
theorem read2_5 (c : Dev nD) (t : Fin cfg2.N) : (iblk2 V c 5 t : FVec Ideal S1 .f32) = V c main_v26 := by
  blk_ext! [iblk2, idx2 t]

/-- A stored piece of the scratch holds its head's hidden values. -/
theorem head_blk (c : Dev nD) (t : Fin cfg2.N) (p : ℕ) (hp : p < 16) (i0 i1 i2) (x : S256x128.Idx) (r' : Fin 2048) (h : Fin 16) (d : Fin 128)
    (hr : r'.val = t.val * 256 + (x 0).val) (hh : h.val = p) (hd : d.val = (x 1).val) :
    k2_pay3 (View.ld (iblk2 V c 0 t) (Rect.unit (s := S16x256x512) ![p, 0, 0] ![1, 256, 512] i0))
        (View.ld (iblk2 V c 1 t) (Rect.unit (s := S16x512x256) ![p, 0, 0] ![1, 512, 256] i1))
        (View.ld (iblk2 V c 2 t) (Rect.unit (s := S16x256x128) ![p, 0, 0] ![1, 256, 128] i2)) x
      = hid (V c main_v28) (V c main_arg5) (V c main_arg6) r' h d := by
  obtain ⟨r, e, rfl⟩ : ∃ (r : Fin 256) (e : Fin 128), x = ix2 r e := ⟨x 0, x 1, by blk_ext⟩
  have h1 : h = ⟨p, hp⟩ := Fin.ext hh
  have h2 : d = e := Fin.ext hd
  subst h1 h2
  have hr' : t.val * 256 + r.val < 2048 := lt_of_eq_of_lt hr.symm r'.isLt
  have h3 : r' = ⟨t.val * 256 + r.val, hr'⟩ := Fin.ext hr
  subst h3
  refine (head_ld _ _ _ p hp i0 i1 i2 r d).trans ?_
  simp only [read2_0 V c t _ r _ hr', read2_1, read2_2]
  rfl

theorem final2 (c : Dev nD) : (dat2 V c).arrAt 6 cfg2.N
    = outOf (V c main_v28) (V c main_arg5) (V c main_arg6) (V c main_arg4) (V c main_v0) (V c main_v26) := by
  refine (dat2 V c).arrAt_eq_of_covers 6 _ (by decide +kernel) fun t _ y => ?_
  have ht := (idx2 t).2.2.2.2.2.2.2
  blk_simp
  rw [after2_6]
  unfold outsAt2
  frame_out
  obtain ⟨r, e, rfl⟩ : ∃ (r : Fin 256) (e : Fin 2048), (show S256x2048.Idx from y) = ix2 r e := ⟨y 0, y 1, by blk_ext⟩
  have hr : t.val * 256 + r.val < 2048 := by omega
  have hi : ((cfg2.win 6).blk t).view.emb (ix2 r e) = ix2 (⟨t.val * 256 + r.val, hr⟩ : Fin 2048) e := by
    blk_ext [idx2 t]
  refine (out_at _ _ _ _ r e).trans ?_
  refine Eq.trans ?_ (congrArg (outOf (V c main_v28) (V c main_arg5) (V c main_arg6) (V c main_arg4) (V c main_v0) (V c main_v26)) hi.symm)
  refine congrArg₂ (· + ·) (Finset.sum_congr rfl fun k _ => ?_) ?_
  · rw [View.readCov_eq_canon']
    refine congrArg₂ (· * ·) ?_ (by rw [read2_3]; rfl)
    refine Eq.trans (congrArg (View.canon _) (a₂ := ix2 r k) ?_) ?_
    · show (Rect.unit (s := S256x2048) ![0, 0] ![256, 2048] inb_S256x2048_S256x2048_0_0).emb (ix2 r k) = ix2 r k
      blk_ext
    canon_tiles x h
    case piece0 =>
      have h0' : r.val = (x 0).val := h0
      have h1' : k.val = 1920 + (x 1).val := h1
      exact head_blk V c t 15 (by decide) _ _ _ x _ _ _ (by show t.val * 256 + r.val = _; omega) (by show k.val / 128 = _; omega) (by show k.val % 128 = _; omega)
    case piece1 =>
      have h0' : r.val = (x 0).val := h0
      have h1' : k.val = 1792 + (x 1).val := h1
      exact head_blk V c t 14 (by decide) _ _ _ x _ _ _ (by show t.val * 256 + r.val = _; omega) (by show k.val / 128 = _; omega) (by show k.val % 128 = _; omega)
    case piece2 =>
      have h0' : r.val = (x 0).val := h0
      have h1' : k.val = 1664 + (x 1).val := h1
      exact head_blk V c t 13 (by decide) _ _ _ x _ _ _ (by show t.val * 256 + r.val = _; omega) (by show k.val / 128 = _; omega) (by show k.val % 128 = _; omega)
    case piece3 =>
      have h0' : r.val = (x 0).val := h0
      have h1' : k.val = 1536 + (x 1).val := h1
      exact head_blk V c t 12 (by decide) _ _ _ x _ _ _ (by show t.val * 256 + r.val = _; omega) (by show k.val / 128 = _; omega) (by show k.val % 128 = _; omega)
    case piece4 =>
      have h0' : r.val = (x 0).val := h0
      have h1' : k.val = 1408 + (x 1).val := h1
      exact head_blk V c t 11 (by decide) _ _ _ x _ _ _ (by show t.val * 256 + r.val = _; omega) (by show k.val / 128 = _; omega) (by show k.val % 128 = _; omega)
    case piece5 =>
      have h0' : r.val = (x 0).val := h0
      have h1' : k.val = 1280 + (x 1).val := h1
      exact head_blk V c t 10 (by decide) _ _ _ x _ _ _ (by show t.val * 256 + r.val = _; omega) (by show k.val / 128 = _; omega) (by show k.val % 128 = _; omega)
    case piece6 =>
      have h0' : r.val = (x 0).val := h0
      have h1' : k.val = 1152 + (x 1).val := h1
      exact head_blk V c t 9 (by decide) _ _ _ x _ _ _ (by show t.val * 256 + r.val = _; omega) (by show k.val / 128 = _; omega) (by show k.val % 128 = _; omega)
    case piece7 =>
      have h0' : r.val = (x 0).val := h0
      have h1' : k.val = 1024 + (x 1).val := h1
      exact head_blk V c t 8 (by decide) _ _ _ x _ _ _ (by show t.val * 256 + r.val = _; omega) (by show k.val / 128 = _; omega) (by show k.val % 128 = _; omega)
    case piece8 =>
      have h0' : r.val = (x 0).val := h0
      have h1' : k.val = 896 + (x 1).val := h1
      exact head_blk V c t 7 (by decide) _ _ _ x _ _ _ (by show t.val * 256 + r.val = _; omega) (by show k.val / 128 = _; omega) (by show k.val % 128 = _; omega)
    case piece9 =>
      have h0' : r.val = (x 0).val := h0
      have h1' : k.val = 768 + (x 1).val := h1
      exact head_blk V c t 6 (by decide) _ _ _ x _ _ _ (by show t.val * 256 + r.val = _; omega) (by show k.val / 128 = _; omega) (by show k.val % 128 = _; omega)
    case piece10 =>
      have h0' : r.val = (x 0).val := h0
      have h1' : k.val = 640 + (x 1).val := h1
      exact head_blk V c t 5 (by decide) _ _ _ x _ _ _ (by show t.val * 256 + r.val = _; omega) (by show k.val / 128 = _; omega) (by show k.val % 128 = _; omega)
    case piece11 =>
      have h0' : r.val = (x 0).val := h0
      have h1' : k.val = 512 + (x 1).val := h1
      exact head_blk V c t 4 (by decide) _ _ _ x _ _ _ (by show t.val * 256 + r.val = _; omega) (by show k.val / 128 = _; omega) (by show k.val % 128 = _; omega)
    case piece12 =>
      have h0' : r.val = (x 0).val := h0
      have h1' : k.val = 384 + (x 1).val := h1
      exact head_blk V c t 3 (by decide) _ _ _ x _ _ _ (by show t.val * 256 + r.val = _; omega) (by show k.val / 128 = _; omega) (by show k.val % 128 = _; omega)
    case piece13 =>
      have h0' : r.val = (x 0).val := h0
      have h1' : k.val = 256 + (x 1).val := h1
      exact head_blk V c t 2 (by decide) _ _ _ x _ _ _ (by show t.val * 256 + r.val = _; omega) (by show k.val / 128 = _; omega) (by show k.val % 128 = _; omega)
    case piece14 =>
      have h0' : r.val = (x 0).val := h0
      have h1' : k.val = 128 + (x 1).val := h1
      exact head_blk V c t 1 (by decide) _ _ _ x _ _ _ (by show t.val * 256 + r.val = _; omega) (by show k.val / 128 = _; omega) (by show k.val % 128 = _; omega)
    case piece15 =>
      have h0' : r.val = (x 0).val := h0
      have h1' : k.val = 0 + (x 1).val := h1.trans (Nat.zero_add _).symm
      exact head_blk V c t 0 (by decide) _ _ _ x _ _ _ (by show t.val * 256 + r.val = _; omega) (by show k.val / 128 = _; omega) (by show k.val % 128 = _; omega)
  · rw [read2_4 V c t r e hr, read2_5]
    refine congrArg₂ (· * ·) ?_ rfl
    show View.ld (V c main_v26) _ _ = _
    pointwise; blk_ext

end Cert.KernelIdeal.Value
-- ==== Proof.Value.Tables.lean ====
module

public import proofs.«01_k».proof.Proof.Ideal.Whole
public import proofs.«01_k».proof.Proof.Value.Maths
public import Idealize.ShloMosaic.Lib.Pipeline.ValueKit
public import Idealize.ShloMosaic.Lib.StableHlo.ReadAt
public import Idealize.ShloMosaic.Lib.WordCmp

/-! The tables and reshaped arguments that the host hands to the first region. -/

@[expose] public section

set_option maxRecDepth 16384

noncomputable section

namespace Cert.KernelIdeal.Value

open Cert.KernelIdeal.Gen Cert.KernelIdeal.Run Cert.Maths
open Idealize.ShloMosaic Idealize.ShloMosaic.TcCoe Idealize.ShloMosaic.Tactic
open Idealize.ShloMosaic.Pipeline (Dat Cfg Window cellOf)

variable (V : Valuation τ sig (Elt Ideal))

/-- The angle of row `r` at lane `d`. -/
def angleK (r : Fin 2048) (d : Fin 128) : EReal :=
  if h : d.val < 64 then FloatOps.sitofp (F := Ideal) .f32 (BitVec.ofNat 32 r.val) * Ideal.ofBits .f32 (lit0 (S64.rowMajor (ix1 ⟨d.val, by omega⟩)))
  else FloatOps.sitofp (F := Ideal) .f32 (BitVec.ofNat 32 r.val) * Ideal.ofBits .f32 (lit0 (S64.rowMajor (ix1 ⟨d.val - 64, by omega⟩)))

/-- The scale that the tables of the queries carry. -/
abbrev scaleK : EReal := Ideal.div (Ideal.ofBits .f32 0x3F800000#32) (Ideal.sqrt (Ideal.ofBits .f32 1124073472#32))

abbrev tX : FVec Ideal S2048x2048 .f32 := StableHlo.after hostOps0 V (Proc.devRef .tc main_v0)
abbrev tC : FVec Ideal S3x2048x128 .f32 := StableHlo.after hostOps0 V (Proc.devRef .tc main_v19)
abbrev tS : FVec Ideal S3x2048x128 .f32 := StableHlo.after hostOps0 V (Proc.devRef .tc main_v25)
abbrev tE : FVec Ideal S1 .f32 := StableHlo.after hostOps0 V (Proc.devRef .tc main_v26)
abbrev sX : FVec Ideal S1x2048x2048 .f32 := V (Proc.devRef .tc main_arg0)
abbrev sE : FVec Ideal S_ .f32 := V (Proc.devRef .tc main_arg7)

theorem tX_at (r x : Fin 2048) : tX V (ix2 r x) = sX V (ix3 0 r x) := by
  unfold tX sX
  after_reads_at

theorem tE_at : tE V (ix1 0) = sE V ix0 := by
  unfold tE sE
  after_reads_at

theorem tC_0 (r : Fin 2048) (d : Fin 128) : tC V (ix3 0 r d) = Ideal.cos (angleK r d) * scaleK := by
  unfold tC angleK scaleK
  after_reads_at
  after_reads_at
  split
  · after_reads_at
  · after_reads_at

theorem tC_1 (r : Fin 2048) (d : Fin 128) : tC V (ix3 1 r d) = Ideal.cos (angleK r d) := by
  unfold tC angleK
  after_reads_at
  after_reads_at
  split
  · after_reads_at
  · after_reads_at

theorem tC_2 (r : Fin 2048) (d : Fin 128) : tC V (ix3 2 r d) = 1 := by
  unfold tC
  after_reads_at
  after_reads_at

theorem tS_0 (r : Fin 2048) (d : Fin 128) : tS V (ix3 0 r d) = Ideal.sin (angleK r d) * scaleK := by
  unfold tS angleK scaleK
  after_reads_at
  after_reads_at
  split
  · after_reads_at
  · after_reads_at

theorem tS_1 (r : Fin 2048) (d : Fin 128) : tS V (ix3 1 r d) = Ideal.sin (angleK r d) := by
  unfold tS angleK
  after_reads_at
  after_reads_at
  split
  · after_reads_at
  · after_reads_at

theorem tS_2 (r : Fin 2048) (d : Fin 128) : tS V (ix3 2 r d) = 0 := by
  unfold tS
  after_reads_at
  after_reads_at

end Cert.KernelIdeal.Value
-- ==== Proof.Value.Scores.lean ====
module

public import proofs.«01_k».proof.Proof.Value.Maths

/-! The rotated scores as real numbers: the program that scales the rotated queries by the
    reciprocal root of the head's width, and the one that divides the score by that root. -/

@[expose] public section

noncomputable section

namespace Cert.Maths

open Idealize.ShloMosaic

/-- The rotation of a row of real numbers. -/
def ropeR (p cs sn : Fin 128 → ℝ) (d : Fin 128) : ℝ :=
  p d * cs d + (if h : d.val < 64 then -p ⟨64 + d.val, by omega⟩ else p ⟨d.val - 64, by omega⟩) * sn d

/-- The real score of row `r` against row `j`. -/
def scR (Q K co si : Fin 2048 → Fin 128 → ℝ) (r j : Fin 2048) : ℝ :=
  (∑ d, ropeR (Q r) (co r) (si r) d * ropeR (K j) (co j) (si j) d) / Real.sqrt 128

theorem rope_coe (p cs sn : Fin 128 → EReal) (p' cs' sn' : Fin 128 → ℝ) (hp : ∀ d, p d = (p' d : EReal)) (hc : ∀ d, cs d = (cs' d : EReal))
    (hs : ∀ d, sn d = (sn' d : EReal)) (d : Fin 128) : rope p cs sn d = (ropeR p' cs' sn' d : EReal) := by
  unfold rope ropeR
  simp only [hp, hc, hs]
  split
  · rw [zero_sub]; norm_cast
  · norm_cast

theorem ofBits_128 : Ideal.ofBits .f32 1124073472#32 = ((128 : ℝ) : EReal) := by
  simp [Ideal.ofBits, Ideal.ieee, -EReal.coe_mul]; norm_num

theorem sqrt_128 : Ideal.sqrt (Ideal.ofBits .f32 1124073472#32) = ((Real.sqrt 128 : ℝ) : EReal) := by
  rw [ofBits_128, Ideal.sqrt_coe, if_neg (by norm_num)]

theorem root_ne : Real.sqrt 128 ≠ 0 := by
  have : (0 : ℝ) < Real.sqrt 128 := Real.sqrt_pos.mpr (by norm_num)
  exact this.ne'

/-- The scale the first program's tables carry. -/
theorem scale_coe : Ideal.div (Ideal.ofBits .f32 0x3F800000#32) (Ideal.sqrt (Ideal.ofBits .f32 1124073472#32)) = ((1 / Real.sqrt 128 : ℝ) : EReal) := by
  rw [sqrt_128, Ideal.ofBits_one_f32, ← EReal.coe_one, div_coe _ _ root_ne]

theorem score_scaled (Q K co si : Fin 2048 → Fin 128 → ℝ) (q k : Fin 2048 → Fin 128 → EReal)
    (hq : ∀ r d, q r d = (ropeR (Q r) (fun d => co r d * (1 / Real.sqrt 128)) (fun d => si r d * (1 / Real.sqrt 128)) d : EReal))
    (hk : ∀ r d, k r d = (ropeR (K r) (co r) (si r) d : EReal)) (r j : Fin 2048) :
    score q k r j = (scR Q K co si r j : EReal) := by
  unfold score scR
  simp only [hq, hk, ← EReal.coe_mul, ← coe_sum]
  rw [Finset.sum_div]
  refine congrArg _ (Finset.sum_congr rfl fun d _ => ?_)
  unfold ropeR
  ring

/-- A sum over a head's lanes is the sum over its two halves. -/
theorem sum_halves (F : Fin 128 → ℝ) : (∑ x : Fin 64, F ⟨x.val, by omega⟩) + (∑ x : Fin 64, F ⟨64 + x.val, by omega⟩) = ∑ d, F d := by
  have h := Fin.sum_univ_add (a := 64) (b := 64) F
  exact h.symm

theorem score_divided (Q K co si : Fin 2048 → Fin 128 → ℝ) (r j : Fin 2048) :
    Ideal.div
      ((∑ x : Fin 64,
          ((Q r ⟨x.val, by omega⟩ : EReal) * (co r ⟨x.val, by omega⟩ : EReal) + -(Q r ⟨64 + x.val, by omega⟩ : EReal) * (si r ⟨x.val, by omega⟩ : EReal)) *
            ((K j ⟨x.val, by omega⟩ : EReal) * (co j ⟨x.val, by omega⟩ : EReal) + -(K j ⟨64 + x.val, by omega⟩ : EReal) * (si j ⟨x.val, by omega⟩ : EReal))) +
        ∑ x : Fin 64,
          ((Q r ⟨64 + x.val, by omega⟩ : EReal) * (co r ⟨64 + x.val, by omega⟩ : EReal) + (Q r ⟨x.val, by omega⟩ : EReal) * (si r ⟨64 + x.val, by omega⟩ : EReal)) *
            ((K j ⟨64 + x.val, by omega⟩ : EReal) * (co j ⟨64 + x.val, by omega⟩ : EReal) + (K j ⟨x.val, by omega⟩ : EReal) * (si j ⟨64 + x.val, by omega⟩ : EReal)))
      (Ideal.sqrt (Ideal.ofBits .f32 1124073472#32)) = (scR Q K co si r j : EReal) := by
  rw [sqrt_128]
  simp only [← EReal.coe_mul, ← EReal.coe_add, ← EReal.coe_neg, ← coe_sum]
  rw [div_coe _ _ root_ne]
  unfold scR
  refine congrArg (fun y : ℝ => ((y / Real.sqrt 128 : ℝ) : EReal)) ?_
  rw [← sum_halves]
  refine congrArg₂ (· + ·) (Finset.sum_congr rfl fun x _ => ?_) (Finset.sum_congr rfl fun x _ => ?_)
  · unfold ropeR
    rw [dif_pos (by dsimp only; omega), dif_pos (by dsimp only; omega)]
  · unfold ropeR
    rw [dif_neg (by dsimp only; omega), dif_neg (by dsimp only; omega)]
    have : (⟨64 + x.val - 64, by omega⟩ : Fin 128) = ⟨x.val, by omega⟩ := Fin.ext (by dsimp only; omega)
    simp only [this]

/-! ## Constants -/

theorem ofBits_neg_inf : Ideal.ofBits .f32 4286578688#32 = ⊥ := by
  simp [Ideal.ofBits, Ideal.ieee]

theorem ofBits_tiny_le : Ideal.ofBits .f32 730643660#32 ≤ 1 := by
  have : Ideal.ofBits .f32 730643660#32 = ((9223372 * (2:ℝ) ^ (-63 : ℤ) : ℝ) : EReal) := by
    simp [Ideal.ofBits, Ideal.ieee, -EReal.coe_mul]
  rw [this, ← EReal.coe_one, EReal.coe_le_coe_iff]
  norm_num

/-- The constant added to a row's degree, as a real number. -/
theorem ofBits_eps : ∃ y : ℝ, 0 < y ∧ Ideal.ofBits .f32 897988541#32 = (y : EReal) := by
  refine ⟨_, ?_, by simp [Ideal.ofBits, Ideal.ieee, -EReal.coe_mul]; rfl⟩
  norm_num

/-- Every pattern whose exponent is not all ones is a real number. -/
theorem ofBits_real (b : BitVec 32) (h : (b.extractLsb' 23 8).toNat ≠ 255) : ∃ y : ℝ, Ideal.ofBits .f32 b = (y : EReal) := by
  unfold Ideal.ofBits Ideal.ieee
  simp only []
  rw [if_neg (by simpa using h)]
  split
  · exact ⟨_, rfl⟩
  · exact ⟨_, rfl⟩

/-- Dividing by one plus the constant is multiplying by its reciprocal. -/
theorem div_eps (x : EReal) : Ideal.div x (1 + Ideal.ofBits .f32 897988541#32) = x * c2 := by
  obtain ⟨y, hy, he⟩ := ofBits_eps
  unfold c2
  rw [he, ← EReal.coe_one, ← EReal.coe_add]
  exact div_mul x _ (by positivity)

/-! ## The reference's running maximum as a left fold -/

theorem foldl_max_le {ι : Type} (l : List ι) (f : ι → EReal) (a c : EReal) :
    l.foldl (fun r n => max r (f n)) a ≤ c ↔ a ≤ c ∧ ∀ n ∈ l, f n ≤ c := by
  induction l generalizing a with
  | nil => simp
  | cons x l ih => rw [List.foldl_cons, ih, max_le_iff, List.forall_mem_cons, and_assoc]

end Cert.Maths
-- ==== Proof.Value.RefValue.lean ====
module

public import proofs.«01_k».proof.Proof.Gen.ReferenceIdeal.Run
public import proofs.«01_k».proof.Proof.Value.Scores
public import Idealize.ShloMosaic.Lib.WordCmp
public import Idealize.ShloMosaic.Lib.Pipeline.ValueKit

/-! The reference at an index: its masked softmax is the row of weights, its degrees are one,
    and its four aggregators are those of the kernel's second region. -/

@[expose] public section

set_option maxRecDepth 16384

noncomputable section

namespace Cert.ReferenceIdeal.AtIndex

open Cert.ReferenceIdeal.Gen Cert.ReferenceIdeal.Value Cert.ReferenceIdeal Cert.Maths
open Idealize.ShloMosaic Idealize.ShloMosaic.TcCoe Idealize.ShloMosaic.Tactic

variable (V : Valuation τ sig (Elt Ideal))

/-- The reference's projected head, its tables and its weights, as arrays of their shapes. -/
abbrev aQ : FVec Ideal S1x16x2048x128 .f32 := res_main_v2 V
abbrev aK : FVec Ideal S1x16x2048x128 .f32 := res_main_v5 V
abbrev aV : FVec Ideal S1x16x2048x128 .f32 := res_main_v8 V
abbrev aC : FVec Ideal S2048x128 .f32 := res_main_v16 V
abbrev aS : FVec Ideal S2048x128 .f32 := res_main_v17 V
abbrev aScore : FVec Ideal S1x16x2048x2048 .f32 := res_main_v48 V
abbrev aExp : FVec Ideal S1x16x2048x2048 .f32 := res_main_v55 V
abbrev aSoft : FVec Ideal S1x16x2048x2048 .f32 := res_main_v63 V
abbrev aDis : FVec Ideal S1x16x2048 .f32 := res_main_v70 V
abbrev aW : FVec Ideal S1x16x2048x2048 .f32 := res_main_v80 V

theorem mask_at (r j : Fin 2048) : (res_main_v45 V : IVec S2048x2048 1) (ix2 r j) = if j.val ≤ r.val then 1#1 else 0#1 := by
  have h : (res_main_v45 V : IVec S2048x2048 1) (ix2 r j)
      = Scalar.select (IntOp.cmpi .sge (IntOp.addi (BitVec.ofNat 32 r.val) 0#32) (BitVec.ofNat 32 j.val)) 1#1 0#1 := by
    pointwise [res_main_v45]
  rw [h]
  have ha : IntOp.addi (BitVec.ofNat 32 r.val) 0#32 = BitVec.ofNat 32 r.val := BitVec.add_zero _
  rw [ha, WordCmp.cmpi_sge_ofNat (by omega) (by omega)]
  by_cases h : j.val ≤ r.val
  · rw [if_pos h, decide_eq_true h]; rfl
  · rw [if_neg h, decide_eq_false h]; rfl

/-- The reference's literal zero. -/
theorem zero_const : id (constant (F := Ideal) S_ .f32 0#32) ix0 = (0 : EReal) := Ideal.ofBits_zero_f32

variable (Q K : Fin 16 → Fin 2048 → Fin 128 → ℝ) (co si : Fin 2048 → Fin 128 → ℝ)
  (hQ : ∀ h r d, aQ V (ix4 0 h r d) = (Q h r d : EReal)) (hK : ∀ h r d, aK V (ix4 0 h r d) = (K h r d : EReal))
  (hC : ∀ r d, aC V (ix2 r d) = (co r d : EReal)) (hS : ∀ r d, aS V (ix2 r d) = (si r d : EReal))

include hQ hK hC hS in
theorem score_at (h : Fin 16) (r j : Fin 2048) :
    aScore V (ix4 0 h r j) = if j.val ≤ r.val then (scR (Q h) (K h) co si r j : EReal) else ⊥ := by
  have e : aScore V (ix4 0 h r j) = Scalar.select ((res_main_v45 V : IVec S2048x2048 1) (ix2 r j)) (scR (Q h) (K h) co si r j : EReal) ⊥ := by
    refine Eq.trans ?_ (Maths.div_one _)
    rw [← score_divided]
    simp only [← hQ, ← hK, ← hC, ← hS]
    rw [← ofBits_neg_inf]
    pointwise [aScore, aQ, aK, aC, aS, res_main_v48]
    rfl
  rw [e, mask_at]
  split <;> rfl

/-- The row maxima the softmax subtracts. -/
def aMax : FVec Ideal S1x16x2048 .f32 :=
  Host.reduce FloatOps.maximumf (aScore V) (constant (F := Ideal) S_ .f32 0xFF800000#32) reducesTo_S1x16x2048x2048_S1x16x2048_d3 h_S_

theorem exp_open (S : FVec Ideal S1x16x2048x2048 .f32) (R : FVec Ideal S1x16x2048 .f32) (h : Fin 16) (r j : Fin 2048) :
    Host.exp (subf S (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) R)))) (ix4 0 h r j)
      = Ideal.exp (S (ix4 0 h r j) - max (Ideal.ofBits .f32 4286578688#32) (R (ix3 0 h r))) := by
  pointwise

theorem exp_at (h : Fin 16) (r j : Fin 2048) : aExp V (ix4 0 h r j)
    = Ideal.exp (aScore V (ix4 0 h r j) - max (Ideal.ofBits .f32 4286578688#32) (aMax V (ix3 0 h r))) :=
  exp_open (aScore V) (aMax V) h r j

/-- Which row an entry of the score array belongs to. -/
theorem drop_at (h : Fin 16) (r j : Fin 2048) : reducesTo_S1x16x2048x2048_S1x16x2048_d3.drop (ix4 0 h r j) = ix3 0 h r := by
  funext a
  fin_cases a <;> refine Fin.ext ?_
  · exact Shape.ReducesTo.drop_apply_val_of_eq reducesTo_S1x16x2048x2048_S1x16x2048_d3 (ix4 0 h r j) (0 : Fin 3) (0 : Fin 4)
  · exact Shape.ReducesTo.drop_apply_val_of_eq reducesTo_S1x16x2048x2048_S1x16x2048_d3 (ix4 0 h r j) (1 : Fin 3) (1 : Fin 4)
  · exact Shape.ReducesTo.drop_apply_val_of_eq reducesTo_S1x16x2048x2048_S1x16x2048_d3 (ix4 0 h r j) (2 : Fin 3) (2 : Fin 4)

include hQ hK hC hS in
/-- The row's largest score is a real number. -/
theorem max_at (h : Fin 16) (r : Fin 2048) : ∃ M : ℝ, max (Ideal.ofBits .f32 4286578688#32) (aMax V (ix3 0 h r)) = (M : EReal) := by
  have hr : aMax V (ix3 0 h r) = Finset.fold max (⊥ : EReal) (aScore V)
      (Finset.univ.filter fun i => reducesTo_S1x16x2048x2048_S1x16x2048_d3.drop i = ix3 0 h r) :=
    (Host.reduce_eq_fold (max : EReal → EReal → EReal) (aScore V) _ reducesTo_S1x16x2048x2048_S1x16x2048_d3 h_S_ (ix3 0 h r)).trans
      (congrArg (fun b => Finset.fold max b (aScore V) (Finset.univ.filter fun i => reducesTo_S1x16x2048x2048_S1x16x2048_d3.drop i = ix3 0 h r)) ofBits_neg_inf)
  rw [ofBits_neg_inf, max_eq_right bot_le, hr]
  refine ⟨_, (EReal.coe_toReal (ne_of_lt ?_) (ne_of_gt ?_)).symm⟩
  · rw [Finset.fold_max_lt]
    refine ⟨bot_lt_top, fun i _ => ?_⟩
    obtain ⟨z, a, b, c, rfl⟩ : ∃ (z : Fin 1) (a : Fin 16) (b c : Fin 2048), i = ix4 z a b c := ⟨i 0, i 1, i 2, i 3, by blk_ext⟩
    obtain rfl : z = 0 := Subsingleton.elim _ _
    rw [score_at V Q K co si hQ hK hC hS]
    split
    · exact EReal.coe_lt_top _
    · exact bot_lt_top
  · rw [Finset.lt_fold_max]
    refine Or.inr ⟨ix4 0 h r r, ?_, ?_⟩
    · rw [Finset.mem_filter]
      exact ⟨Finset.mem_univ _, drop_at h r r⟩
    · rw [score_at V Q K co si hQ hK hC hS, if_pos le_rfl]; exact EReal.bot_lt_coe _

/-- The mask as a number. -/
theorem bit_one : FloatOps.uitofp (F := Ideal) .f32 (1#1) = (1 : EReal) := by
  show ((((1#1 : BitVec 1).toNat : ℝ)) : EReal) = 1
  simp
theorem bit_zero : FloatOps.uitofp (F := Ideal) .f32 (0#1) = (0 : EReal) := by
  show ((((0#1 : BitVec 1).toNat : ℝ)) : EReal) = 0
  simp

/-- Masking a row of weights changes nothing: they are zero off the mask. -/
theorem masked (s : Fin 2048 → ℝ) (r j : Fin 2048) :
    (aw r s j : EReal) * FloatOps.uitofp (F := Ideal) .f32 (if j.val ≤ r.val then 1#1 else 0#1) = (aw r s j : EReal) := by
  split
  · rw [bit_one, mul_one]
  · rename_i hj
    rw [bit_zero, mul_zero]
    unfold aw pw
    rw [if_neg hj, zero_div, EReal.coe_zero]

include hQ hK hC hS in
theorem soft_at (h : Fin 16) (r j : Fin 2048) : aSoft V (ix4 0 h r j) = (aw r (scR (Q h) (K h) co si r) j : EReal) := by
  obtain ⟨M, hM⟩ := max_at V Q K co si hQ hK hC hS h r
  have e : aSoft V (ix4 0 h r j) = Ideal.div (aExp V (ix4 0 h r j)) (∑ x, aExp V (ix4 0 h r x))
      * FloatOps.uitofp (F := Ideal) .f32 ((res_main_v45 V : IVec S2048x2048 1) (ix2 r j)) := by
    pointwise [aSoft, aExp, res_main_v63]
  rw [e, mask_at]
  simp only [exp_at, hM]
  rw [soft r (scR (Q h) (K h) co si r) (fun j => aScore V (ix4 0 h r j)) (fun j => score_at V Q K co si hQ hK hC hS h r j) M j]
  exact masked _ r j

include hQ hK hC hS in
theorem dis_at (h : Fin 16) (r : Fin 2048) : aDis V (ix3 0 h r) = 1 := by
  have e : aDis V (ix3 0 h r) = if 0 < ∑ x, aSoft V (ix4 0 h r x) then
      Ideal.rsqrt (max (∑ x, aSoft V (ix4 0 h r x)) (Ideal.ofBits FTy.f32 730643660#32)) else 0 := by
    pointwise [aDis, aSoft, res_main_v70, res_main_v64]
    rw [zero_const]
  rw [e]
  simp only [soft_at V Q K co si hQ hK hC hS, sum_aw]
  rw [if_pos zero_lt_one, max_eq_left ofBits_tiny_le, ← EReal.coe_one, Ideal.rsqrt_coe, if_neg (by norm_num), if_neg one_ne_zero, Real.sqrt_one, inv_one]

include hQ hK hC hS in
theorem weight_at (h : Fin 16) (r j : Fin 2048) : aW V (ix4 0 h r j) = (aw r (scR (Q h) (K h) co si r) j : EReal) := by
  have e : aW V (ix4 0 h r j) = aDis V (ix3 0 h r) * aSoft V (ix4 0 h r j) * aDis V (ix3 0 h j)
      * FloatOps.uitofp (F := Ideal) .f32 ((res_main_v45 V : IVec S2048x2048 1) (ix2 r j)) := by
    pointwise [aW, aDis, aSoft, res_main_v80]
  rw [e, mask_at, dis_at V Q K co si hQ hK hC hS, dis_at V Q K co si hQ hK hC hS, soft_at V Q K co si hQ hK hC hS, one_mul, mul_one]
  exact masked _ r j

/-! ## The four aggregators -/

abbrev aSum : FVec Ideal S1x16x2048x128 .f32 := res_main_v85 V
abbrev aMean : FVec Ideal S1x16x2048x128 .f32 := res_main_v87 V
abbrev aDeg : FVec Ideal S1x16x2048x1 .f32 := res_main_v84 V

/-- Head `h` of the reference's values. -/
abbrev vR (h : Fin 16) (r : Fin 2048) (d : Fin 128) : EReal := aV V (ix4 0 h r d)

include hQ hK hC hS in
theorem deg_at (h : Fin 16) (r : Fin 2048) : aDeg V (ix4 0 h r 0) = 1 + Ideal.ofBits .f32 897988541#32 := by
  have e : aDeg V (ix4 0 h r 0) = (∑ x, aW V (ix4 0 h r x)) + Ideal.ofBits .f32 897988541#32 := by
    pointwise [aDeg, aW, res_main_v84]
  rw [e]
  simp only [weight_at V Q K co si hQ hK hC hS, sum_aw]

variable (h : Fin 16) (q k : Fin 2048 → Fin 128 → EReal) (hs : ∀ r j, score q k r j = (scR (Q h) (K h) co si r j : EReal))

include hQ hK hC hS hs in
theorem sum_at (r : Fin 2048) (d : Fin 128) : aSum V (ix4 0 h r d) = sm q k (vR V h) r d := by
  have e : aSum V (ix4 0 h r d) = ∑ x, aW V (ix4 0 h r x) * aV V (ix4 0 h x d) := by
    pointwise [aSum, aW, aV, res_main_v85]
  rw [e]
  simp only [weight_at V Q K co si hQ hK hC hS]
  exact (tot_div _ _ (hs r) _).symm

include hQ hK hC hS hs in
theorem mean_at (r : Fin 2048) (d : Fin 128) : aMean V (ix4 0 h r d) = sm q k (vR V h) r d * c2 := by
  have e : aMean V (ix4 0 h r d) = Ideal.div (aSum V (ix4 0 h r d)) (aDeg V (ix4 0 h r 0)) := by
    pointwise [aMean, aSum, aDeg, res_main_v87]
  rw [e, sum_at V Q K co si hQ hK hC hS h q k hs, deg_at V Q K co si hQ hK hC hS, div_eps]

/-- What one window position contributes to the reference's running maximum. -/
def winVal (A : FVec Ideal S1x16x2048x128 .f32) (r : Fin 2048) (d : Fin 128) (w : Shape.Idx ⟨4, ![1, 1, 2048, 1]⟩) : EReal :=
  let p : Fin 4 → ℕ := fun a => ((ix4 0 h r d : S1x16x2048x128.Idx) a).val * (![1, 1, 1, 1] : Fin 4 → ℕ) a + (w a).val
  if hin : ∀ a : Fin 4, (![0, 0, 2047, 0] : Fin 4 → ℕ) a ≤ p a ∧ p a - (![0, 0, 2047, 0] : Fin 4 → ℕ) a < S1x16x2048x128.size a
  then A (fun a => ⟨p a - (![0, 0, 2047, 0] : Fin 4 → ℕ) a, (hin a).2⟩) else ⊥

/-- A window position below the array's start contributes nothing, any other the entry it lies on. -/
theorem winVal_eq (A : FVec Ideal S1x16x2048x128 .f32) (r : Fin 2048) (d : Fin 128) (x : Fin 2048) :
    winVal h A r d (ix4 (0 : Fin 1) (0 : Fin 1) x (0 : Fin 1))
      = if hx : 2047 ≤ r.val + x.val then A (ix4 0 h ⟨r.val + x.val - 2047, by omega⟩ d) else ⊥ := by
  unfold winVal
  by_cases hx : 2047 ≤ r.val + x.val
  · rw [dif_pos hx, dif_pos]
    · refine congrArg A (funext fun a => Fin.ext ?_)
      match a with
      | ⟨0, _⟩ => rfl
      | ⟨1, _⟩ => show h.val * 1 + 0 - 0 = h.val; omega
      | ⟨2, _⟩ => show r.val * 1 + x.val - 2047 = r.val + x.val - 2047; omega
      | ⟨3, _⟩ => show d.val * 1 + 0 - 0 = d.val; omega
    · intro a
      match a with
      | ⟨0, _⟩ => show 0 ≤ 0 * 1 + 0 ∧ 0 * 1 + 0 - 0 < 1; omega
      | ⟨1, _⟩ => show 0 ≤ h.val * 1 + 0 ∧ h.val * 1 + 0 - 0 < 16; omega
      | ⟨2, _⟩ => show 2047 ≤ r.val * 1 + x.val ∧ r.val * 1 + x.val - 2047 < 2048; omega
      | ⟨3, _⟩ => show 0 ≤ d.val * 1 + 0 ∧ d.val * 1 + 0 - 0 < 128; omega
  · rw [dif_neg hx, dif_neg]
    intro hin
    have h2 : 2047 ≤ r.val * 1 + x.val := (hin 2).1
    omega

/-- The window fold of the reference's running maximum. -/
theorem cummax_at (A : FVec Ideal S1x16x2048x128 .f32) (I : FVec Ideal S_ .f32) (hI : ∀ i, I i = ⊥) (r : Fin 2048) (d : Fin 128) :
    Host.reduceWindow (max : EReal → EReal → EReal) ![1, 1, 2048, 1] ![1, 1, 1, 1] ![0, 0, 2047, 0] ![0, 0, 0, 0] A I
      reduceWindows_S1x16x2048x128_S1x16x2048x128_w1s1p0_0_w1s1p0_0_w2048s1p2047_0_w1s1p0_0 h_S_ (ix4 0 h r d)
      = win (fun r d => A (ix4 0 h r d)) 2048 r d := by
  have e : Host.reduceWindow (max : EReal → EReal → EReal) ![1, 1, 2048, 1] ![1, 1, 1, 1] ![0, 0, 2047, 0] ![0, 0, 0, 0] A I
      reduceWindows_S1x16x2048x128_S1x16x2048x128_w1s1p0_0_w1s1p0_0_w2048s1p2047_0_w1s1p0_0 h_S_ (ix4 0 h r d)
      = (List.finRange (Shape.numel ⟨4, ![1, 1, 2048, 1]⟩)).foldl (fun a n => max a (winVal h A r d ((Shape.rowMajor ⟨4, ![1, 1, 2048, 1]⟩).symm n))) (⊥ : EReal) := by
    unfold Host.reduceWindow winVal
    simp only [hI]
    rfl
  rw [e]
  refine eq_of_forall_ge_iff fun c => ?_
  rw [foldl_max_le]
  unfold win
  rw [Finset.sup_le_iff]
  constructor
  · intro hall j hj
    rw [Finset.mem_filter] at hj
    have hw := hall.2 ((Shape.rowMajor ⟨4, ![1, 1, 2048, 1]⟩) (ix4 (0 : Fin 1) (0 : Fin 1) (⟨j.val + 2047 - r.val, by omega⟩ : Fin 2048) (0 : Fin 1))) (List.mem_finRange _)
    rw [Equiv.symm_apply_apply, winVal_eq, dif_pos (by dsimp only; omega)] at hw
    have hj' : (⟨r.val + (j.val + 2047 - r.val) - 2047, by omega⟩ : Fin 2048) = j := Fin.ext (by dsimp only; omega)
    simpa only [hj'] using hw
  · intro hall
    refine ⟨bot_le, fun n _ => ?_⟩
    obtain ⟨a, b, x, z, hn⟩ : ∃ (a b : Fin 1) (x : Fin 2048) (z : Fin 1), (Shape.rowMajor ⟨4, ![1, 1, 2048, 1]⟩).symm n = ix4 a b x z :=
      ⟨_, _, _, _, (by blk_ext : _ = ix4 ((Shape.rowMajor ⟨4, ![1, 1, 2048, 1]⟩).symm n 0) ((Shape.rowMajor ⟨4, ![1, 1, 2048, 1]⟩).symm n 1) ((Shape.rowMajor ⟨4, ![1, 1, 2048, 1]⟩).symm n 2) ((Shape.rowMajor ⟨4, ![1, 1, 2048, 1]⟩).symm n 3))⟩
    obtain rfl : a = 0 := Subsingleton.elim _ _
    obtain rfl : b = 0 := Subsingleton.elim _ _
    obtain rfl : z = 0 := Subsingleton.elim _ _
    rw [hn, winVal_eq]
    split
    · exact hall ⟨r.val + x.val - 2047, by omega⟩ (Finset.mem_filter.mpr ⟨Finset.mem_univ _, by dsimp only; omega, by dsimp only; omega⟩)
    · exact bot_le

include hQ hK hC hS hs in
theorem var_at (r : Fin 2048) (d : Fin 128) :
    Ideal.div (∑ x, aW V (ix4 0 h r x) * (aV V (ix4 0 h x d) * aV V (ix4 0 h x d))) (aDeg V (ix4 0 h r 0))
      - aMean V (ix4 0 h r d) * aMean V (ix4 0 h r d) = vr q k (vR V h) r d := by
  rw [mean_at V Q K co si hQ hK hC hS h q k hs, deg_at V Q K co si hQ hK hC hS, div_eps]
  simp only [weight_at V Q K co si hQ hK hC hS]
  unfold vr
  rw [tot_div _ _ (hs r)]

abbrev aHid : FVec Ideal S1x16x2048x256 .f32 := res_main_v97 V
abbrev aW1 : FVec Ideal S16x512x256 .f32 := V (Proc.devRef .tc main_arg5)

include hQ hK hC hS hs in
theorem hid_at (r : Fin 2048) (j : Fin 256) : aHid V (ix4 0 h r j) = ∑ x, agg q k (vR V h) r x * aW1 V (ix3 h x j) := by
  have e : aHid V (ix4 0 h r j) = ∑ x : Fin 512, aW1 V (ix3 h x j) *
      (if h1 : x.val < 128 then aSum V (ix4 0 h r ⟨x.val, h1⟩)
        else if h2 : x.val - 128 < 128 then aMean V (ix4 0 h r ⟨x.val - 128, h2⟩)
        else if h3 : x.val - 128 - 128 < 128 then
          Host.reduceWindow (max : EReal → EReal → EReal) ![1, 1, 2048, 1] ![1, 1, 1, 1] ![0, 0, 2047, 0] ![0, 0, 0, 0] (aV V)
                (broadcastInDim S_ ![] bcast_S_S_ (constant S_ .f32 4286578688#32))
                reduceWindows_S1x16x2048x128_S1x16x2048x128_w1s1p0_0_w1s1p0_0_w2048s1p2047_0_w1s1p0_0 h_S_
                (ix4 0 h r ⟨x.val - 128 - 128, h3⟩)
        else Ideal.div (∑ y, aW V (ix4 0 h r y) * (aV V (ix4 0 h y ⟨x.val - 128 - 128 - 128, by omega⟩) * aV V (ix4 0 h y ⟨x.val - 128 - 128 - 128, by omega⟩))) (aDeg V (ix4 0 h r 0))
          - aMean V (ix4 0 h r ⟨x.val - 128 - 128 - 128, by omega⟩) * aMean V (ix4 0 h r ⟨x.val - 128 - 128 - 128, by omega⟩)) := by
    pointwise [aHid, aW1, aSum, aMean, aV, aW, aDeg, res_main_v97]
  rw [e]
  refine Finset.sum_congr rfl fun x _ => ?_
  rw [mul_comm]
  refine congrArg (· * _) ?_
  unfold agg
  split
  · exact sum_at V Q K co si hQ hK hC hS h q k hs _ _
  · split
    · exact mean_at V Q K co si hQ hK hC hS h q k hs _ _
    · split
      · exact cummax_at h (aV V) _ (fun i => ofBits_neg_inf) _ _
      · exact var_at V Q K co si hQ hK hC hS h q k hs _ _

end Cert.ReferenceIdeal.AtIndex
-- ==== Proof.Value.RefOut.lean ====
module

public import proofs.«01_k».proof.Proof.Value.RefValue
public import Idealize.ShloMosaic.Lib.WordCmp
public import Idealize.ShloMosaic.Lib.Pipeline.ValueKit

/-! The reference's projections, tables and result at an index. -/

@[expose] public section

set_option maxRecDepth 16384

noncomputable section

namespace Cert.ReferenceIdeal.AtIndex

open Cert.ReferenceIdeal.Gen Cert.ReferenceIdeal.Value Cert.ReferenceIdeal Cert.Maths
open Idealize.ShloMosaic Idealize.ShloMosaic.TcCoe Idealize.ShloMosaic.Tactic

variable (V : Valuation τ sig (Elt Ideal))

abbrev aX : FVec Ideal S1x2048x2048 .f32 := V (Proc.devRef .tc main_arg0)
abbrev aWq : FVec Ideal S2048x2048 .f32 := V (Proc.devRef .tc main_arg1)
abbrev aWk : FVec Ideal S2048x2048 .f32 := V (Proc.devRef .tc main_arg2)
abbrev aWv : FVec Ideal S2048x2048 .f32 := V (Proc.devRef .tc main_arg3)
abbrev aWo : FVec Ideal S2048x2048 .f32 := V (Proc.devRef .tc main_arg4)
abbrev aW2 : FVec Ideal S16x256x128 .f32 := V (Proc.devRef .tc main_arg6)
abbrev aEps : FVec Ideal S_ .f32 := V (Proc.devRef .tc main_arg7)

theorem q_at (h : Fin 16) (r : Fin 2048) (d : Fin 128) :
    aQ V (ix4 0 h r d) = ∑ x, aX V (ix3 0 r x) * aWq V (ix2 x ⟨h.val * 128 + d.val, by omega⟩) := by
  pointwise [aQ, aX, aWq, res_main_v2]

theorem k_at (h : Fin 16) (r : Fin 2048) (d : Fin 128) :
    aK V (ix4 0 h r d) = ∑ x, aX V (ix3 0 r x) * aWk V (ix2 x ⟨h.val * 128 + d.val, by omega⟩) := by
  pointwise [aK, aX, aWk, res_main_v5]

theorem v_at (h : Fin 16) (r : Fin 2048) (d : Fin 128) :
    aV V (ix4 0 h r d) = ∑ x, aX V (ix3 0 r x) * aWv V (ix2 x ⟨h.val * 128 + d.val, by omega⟩) := by
  pointwise [aV, aX, aWv, res_main_v8]

/-- The angle of row `r` at lane `d`. -/
def angle (r : Fin 2048) (d : Fin 128) : EReal :=
  if h : d.val < 64 then FloatOps.sitofp (F := Ideal) .f32 (BitVec.ofNat 32 r.val) * Ideal.ofBits .f32 (lit0 (S64.rowMajor (ix1 ⟨d.val, by omega⟩)))
  else FloatOps.sitofp (F := Ideal) .f32 (BitVec.ofNat 32 r.val) * Ideal.ofBits .f32 (lit0 (S64.rowMajor (ix1 ⟨d.val - 64, by omega⟩)))

theorem cos_at (r : Fin 2048) (d : Fin 128) : aC V (ix2 r d) = Ideal.cos (angle r d) := by
  unfold angle
  pointwise [aC, res_main_v16, res_main_v15, res_main_v14]

theorem sin_at (r : Fin 2048) (d : Fin 128) : aS V (ix2 r d) = Ideal.sin (angle r d) := by
  unfold angle
  pointwise [aS, res_main_v17, res_main_v15, res_main_v14]

/-- Every entry of the frequency table is a real number. -/
theorem freq_real : ∀ i : Fin 64, ((lit0 i).extractLsb' 23 8).toNat ≠ 255 := by decide

theorem angle_real (r : Fin 2048) (d : Fin 128) : ∃ y : ℝ, angle r d = (y : EReal) := by
  have hf : ∀ i, ∃ y : ℝ, FloatOps.sitofp (F := Ideal) .f32 (BitVec.ofNat 32 r.val) * Ideal.ofBits .f32 (lit0 i) = (y : EReal) := by
    intro i
    obtain ⟨y, hy⟩ := ofBits_real (lit0 i) (freq_real i)
    exact ⟨((BitVec.ofNat 32 r.val).toInt : ℝ) * y, by rw [hy, EReal.coe_mul]; rfl⟩
  unfold angle
  split
  · exact hf _
  · exact hf _

/-- The reference's result. -/
def refOut : FVec Ideal S1x2048x2048 .f32 :=
  addf (Host.dotGeneral dot_S1x2048x2048_S2048x2048_S1x2048x2048_2_0_01_1_n_n none (shapeCast S1x2048x2048 (transpose S1x2048x16x128 [0, 2, 1, 3] (transpose S1x16x2048x128 [2, 0, 3, 1] (Host.dotGeneral dot_S16x256x128_S1x16x2048x256_S16x128x1x2048_1_3_2_02_0_1 none (aW2 V) (mulf (aHid V) (Host.divf (broadcastInDim S1x16x2048x256 ![] bcast_S_S1x16x2048x256 (constant S_ .f32 0x3F800000#32)) (addf (broadcastInDim S1x16x2048x256 ![] bcast_S_S1x16x2048x256 (constant S_ .f32 0x3F800000#32)) (Host.exp (Host.negf (aHid V))))))) transposes_S16x128x1x2048_S1x16x2048x128_2_0_3_1) transposes_S1x16x2048x128_S1x2048x16x128_0_2_1_3) shapeCasts_S1x2048x16x128_S1x2048x2048) (aWo V)) (mulf (broadcastInDim S1x2048x2048 ![] bcast_S_S1x2048x2048 (aEps V)) (aX V))

theorem out_at (r : Fin 2048) (e : Fin 2048) : refOut V (ix3 0 r e)
    = (∑ x : Fin 2048, (∑ y : Fin 256, silu (aHid V (ix4 0 ⟨x.val / 128, by omega⟩ r y)) * aW2 V (ix3 ⟨x.val / 128, by omega⟩ y ⟨x.val % 128, by omega⟩))
        * aWo V (ix2 x e)) + aEps V ix0 * aX V (ix3 0 r e) := by
  have e1 : refOut V (ix3 0 r e)
      = (∑ x : Fin 2048, (∑ y : Fin 256, aW2 V (ix3 ⟨x.val / 128, by omega⟩ y ⟨x.val % 128, by omega⟩) * silu (aHid V (ix4 0 ⟨x.val / 128, by omega⟩ r y)))
        * aWo V (ix2 x e)) + aEps V ix0 * aX V (ix3 0 r e) := by
    unfold silu Ideal.logistic
    pointwise [refOut]
  rw [e1]
  simp only [mul_comm (aW2 V _)]

end Cert.ReferenceIdeal.AtIndex
-- ==== Proof.Value.Agree.lean ====
module

public import proofs.«01_k».proof.Proof.Value.QkvValue
public import proofs.«01_k».proof.Proof.Value.AttnValue
public import proofs.«01_k».proof.Proof.Value.MlpValue
public import proofs.«01_k».proof.Proof.Value.Tables
public import proofs.«01_k».proof.Proof.Value.RefOut

/-! The three regions' composed result is the reference's result, entry by entry. -/

@[expose] public section

set_option maxRecDepth 16384

noncomputable section

namespace Cert.KernelIdeal.Value

open Cert.KernelIdeal.Gen Cert.Maths
open Idealize.ShloMosaic Idealize.ShloMosaic.TcCoe Idealize.ShloMosaic.Tactic
open Cert.ReferenceIdeal.AtIndex (aX aWq aWk aWv aWo aW1 aW2 aEps aQ aK aV aC aS aHid vR q_at k_at v_at angle angle_real cos_at sin_at refOut hid_at)

/-- The weights that part `p` of the stacked projections is made of. -/
def wOf (Wq Wk Wv : FVec Ideal S2048x2048 .f32) (p : Fin 3) : FVec Ideal S2048x2048 .f32 :=
  if p.val = 0 then Wq else if p.val = 1 then Wk else Wv

/-- One head of the stacked projections at a row and lane. -/
theorem stacked_at (X Wq Wk Wv : FVec Ideal S2048x2048 .f32) (C S : FVec Ideal S3x2048x128 .f32) (p : Fin 3) (h : ℕ) (hh : h < 16)
    (r : Fin 2048) (d : Fin 128) :
    headOf (qkvOf X Wq Wk Wv C S) p h hh r d
      = rope (proj X (wOf Wq Wk Wv p) r ⟨h, hh⟩) (fun d => C (ix3 p r d)) (fun d => S (ix3 p r d)) d := by
  have e1 : (⟨(h * 128 + d.val) / 128, by omega⟩ : Fin 16) = ⟨h, hh⟩ := Fin.ext (by show (h * 128 + d.val) / 128 = h; omega)
  have e2 : (⟨(h * 128 + d.val) % 128, Nat.mod_lt _ (by decide)⟩ : Fin 128) = d := Fin.ext (by show (h * 128 + d.val) % 128 = d.val; omega)
  have e : headOf (qkvOf X Wq Wk Wv C S) p h hh r d
      = rope (proj X (wOf Wq Wk Wv p) r ⟨(h * 128 + d.val) / 128, by omega⟩) (fun d => C (ix3 p r d)) (fun d => S (ix3 p r d))
        ⟨(h * 128 + d.val) % 128, Nat.mod_lt _ (by decide)⟩ := rfl
  rw [e, e1, e2]

/-- The two programs hold one table of frequencies. -/
theorem angle_eq (r : Fin 2048) (d : Fin 128) : angleK r d = angle r d := by
  have hl : (Cert.KernelIdeal.lit0 : Fin 64 → BitVec 32) = Cert.ReferenceIdeal.lit0 := by decide
  unfold angleK angle
  rw [hl]

/-- The unit tables leave a projection as it is. -/
theorem rope_unit (p : Fin 128 → EReal) (d : Fin 128) : rope p (fun _ => 1) (fun _ => 0) d = p d := by
  unfold rope
  rw [mul_one, mul_zero, add_zero]

section
variable (V : Valuation Cert.ReferenceIdeal.τ Cert.ReferenceIdeal.sig (Elt Ideal))
  (X Wq Wk Wv Wo : FVec Ideal S2048x2048 .f32) (C S : FVec Ideal S3x2048x128 .f32)
  (w1 : FVec Ideal S16x512x256 .f32) (w2 : FVec Ideal S16x256x128 .f32) (eps : FVec Ideal S1 .f32)
  (hX : ∀ r x, X (ix2 r x) = aX V (ix3 0 r x)) (hWq : ∀ i, Wq i = aWq V i) (hWk : ∀ i, Wk i = aWk V i) (hWv : ∀ i, Wv i = aWv V i)
  (hWo : ∀ i, Wo i = aWo V i) (hw1 : ∀ i, w1 i = aW1 V i) (hw2 : ∀ i, w2 i = aW2 V i) (he : eps (ix1 0) = aEps V ix0)
  (hC0 : ∀ r d, C (ix3 0 r d) = Ideal.cos (angleK r d) * scaleK) (hC1 : ∀ r d, C (ix3 1 r d) = Ideal.cos (angleK r d)) (hC2 : ∀ r d, C (ix3 2 r d) = 1)
  (hS0 : ∀ r d, S (ix3 0 r d) = Ideal.sin (angleK r d) * scaleK) (hS1 : ∀ r d, S (ix3 1 r d) = Ideal.sin (angleK r d)) (hS2 : ∀ r d, S (ix3 2 r d) = 0)
  (fX : ∀ i, ∃ y : ℝ, aX V i = (y : EReal)) (fq : ∀ i, ∃ y : ℝ, aWq V i = (y : EReal)) (fk : ∀ i, ∃ y : ℝ, aWk V i = (y : EReal))

include hX hWq hWk hWv hw1 hC0 hC1 hC2 hS0 hS1 hS2 fX fq fk in
/-- The hidden units before their gate. -/
theorem hid_eq (h : Fin 16) (r : Fin 2048) (j : Fin 256) :
    ∑ y : Fin 512, aggOf (qkvOf X Wq Wk Wv C S) (ix3 h r y) * w1 (ix3 h y j) = aHid V (ix4 0 h r j) := by
  choose x hx using fX
  choose a ha using fq
  choose b hb using fk
  choose g hg using angle_real
  have hQ : ∀ h r d, aQ V (ix4 0 h r d) = ((∑ t, x (ix3 0 r t) * a (ix2 t ⟨h.val * 128 + d.val, by omega⟩) : ℝ) : EReal) := fun h r d => by
    rw [q_at]; simp only [hx, ha, ← EReal.coe_mul, ← coe_sum]
  have hK : ∀ h r d, aK V (ix4 0 h r d) = ((∑ t, x (ix3 0 r t) * b (ix2 t ⟨h.val * 128 + d.val, by omega⟩) : ℝ) : EReal) := fun h r d => by
    rw [k_at]; simp only [hx, hb, ← EReal.coe_mul, ← coe_sum]
  have hC : ∀ r d, aC V (ix2 r d) = ((Real.cos (g r d) : ℝ) : EReal) := fun r d => by rw [cos_at, hg]; rfl
  have hS : ∀ r d, aS V (ix2 r d) = ((Real.sin (g r d) : ℝ) : EReal) := fun r d => by rw [sin_at, hg]; rfl
  have hq : ∀ r d, headOf (qkvOf X Wq Wk Wv C S) 0 h.val h.isLt r d
      = (ropeR (fun d => ∑ t, x (ix3 0 r t) * a (ix2 t ⟨h.val * 128 + d.val, by omega⟩)) (fun d => Real.cos (g r d) * (1 / Real.sqrt 128))
          (fun d => Real.sin (g r d) * (1 / Real.sqrt 128)) d : EReal) := fun r d => by
    rw [stacked_at]
    refine rope_coe _ _ _ _ _ _ (fun d => ?_) (fun d => ?_) (fun d => ?_) d
    · refine (Finset.sum_congr rfl fun t _ => ?_).trans ((q_at V h r d).symm.trans (hQ h r d))
      exact congrArg₂ (· * ·) (hX r t) (hWq _)
    · show C (ix3 0 r d) = _
      rw [hC0, angle_eq, hg, scaleK, scale_coe, EReal.coe_mul]; rfl
    · show S (ix3 0 r d) = _
      rw [hS0, angle_eq, hg, scaleK, scale_coe, EReal.coe_mul]; rfl
  have hk : ∀ r d, headOf (qkvOf X Wq Wk Wv C S) 1 h.val h.isLt r d
      = (ropeR (fun d => ∑ t, x (ix3 0 r t) * b (ix2 t ⟨h.val * 128 + d.val, by omega⟩)) (fun d => Real.cos (g r d))
          (fun d => Real.sin (g r d)) d : EReal) := fun r d => by
    rw [stacked_at]
    refine rope_coe _ _ _ _ _ _ (fun d => ?_) (fun d => ?_) (fun d => ?_) d
    · refine (Finset.sum_congr rfl fun t _ => ?_).trans ((k_at V h r d).symm.trans (hK h r d))
      exact congrArg₂ (· * ·) (hX r t) (hWk _)
    · show C (ix3 1 r d) = _
      rw [hC1, angle_eq, hg]; rfl
    · show S (ix3 1 r d) = _
      rw [hS1, angle_eq, hg]; rfl
  have hv : headOf (qkvOf X Wq Wk Wv C S) 2 h.val h.isLt = vR V h := funext fun r => funext fun d => by
    rw [stacked_at]
    simp only [hC2, hS2]
    rw [rope_unit]
    refine (Finset.sum_congr rfl fun t _ => ?_).trans (v_at V h r d).symm
    exact congrArg₂ (· * ·) (hX r t) (hWv _)
  have hs := score_scaled _ _ _ _ _ _ hq hk
  rw [hid_at V _ _ _ _ hQ hK hC hS h _ _ hs r j]
  refine Finset.sum_congr rfl fun y _ => congrArg₂ (· * ·) ?_ (hw1 _)
  rw [← hv]
  rfl

include hX hWq hWk hWv hWo hw1 hw2 he hC0 hC1 hC2 hS0 hS1 hS2 fX fq fk in
theorem out_eq (r e : Fin 2048) : outOf (aggOf (qkvOf X Wq Wk Wv C S)) w1 w2 Wo X eps (ix2 r e) = refOut V (ix3 0 r e) := by
  rw [Cert.ReferenceIdeal.AtIndex.out_at]
  have e0 : outOf (aggOf (qkvOf X Wq Wk Wv C S)) w1 w2 Wo X eps (ix2 r e)
      = (∑ k : Fin 2048, hid (aggOf (qkvOf X Wq Wk Wv C S)) w1 w2 r ⟨k.val / 128, by omega⟩ ⟨k.val % 128, Nat.mod_lt _ (by decide)⟩ * Wo (ix2 k e))
        + eps (ix1 0) * X (ix2 r e) := rfl
  rw [e0, he, hX]
  refine congrArg₂ (· + ·) (Finset.sum_congr rfl fun k _ => congrArg₂ (· * ·) ?_ (hWo _)) rfl
  refine Finset.sum_congr rfl fun y _ => congrArg₂ (· * ·) (congrArg silu ?_) (hw2 _)
  exact hid_eq V X Wq Wk Wv C S w1 hX hWq hWk hWv hw1 hC0 hC1 hC2 hS0 hS1 hS2 fX fq fk _ r y
end

end Cert.KernelIdeal.Value
-- ==== Proof.Value.Finite.lean ====
module

public import proofs.«01_k».proof.Defs
public import proofs.«01_k».proof.Proof.Gen.Pre_finite_scores
public import proofs.«01_k».proof.Proof.Value.Maths
public import Idealize.ShloMosaic.Lib.ReduceAll
public import Idealize.ShloMosaic.Lib.Affine

/-! The precondition read at an index: the entries of the input and of two weight arrays are real numbers. -/

@[expose] public section

set_option maxRecDepth 16384

noncomputable section

namespace Cert.Finite

open Idealize.ShloMosaic Cert.Pre_finite_scores

theorem ofBits_inf : Ideal.ofBits .f32 0x7F800000#32 = ⊤ := by
  simp [Ideal.ofBits, Ideal.ieee]

/-- A magnitude below +∞ belongs to a real number. -/
theorem real_of_lt (x : EReal) (h : max x (-x) < ⊤) : ∃ y : ℝ, x = (y : EReal) := by
  induction x with
  | bot => simp at h
  | top => simp at h
  | coe y => exact ⟨y, rfl⟩

theorem real_of_cmp (x : EReal) (h : BitVec.ofBool (decide (max x (-x) < Ideal.ofBits .f32 0x7F800000#32)) = 1#1) :
    ∃ y : ℝ, x = (y : EReal) := by
  rw [ofBits_inf] at h
  apply real_of_lt
  by_contra hn
  rw [decide_eq_false hn] at h
  exact absurd h (by decide)

instance : Subsingleton S_.Idx := ⟨fun a b => funext fun i => i.elim0⟩

theorem decode (a0 : FVec Ideal S1x2048x2048 .f32) (a1 a2 a3 a4 : FVec Ideal S2048x2048 .f32) (a5 : FVec Ideal S16x512x256 .f32)
    (a6 : FVec Ideal S16x256x128 .f32) (a7 : FVec Ideal S_ .f32)
    (h : fn (F := Ideal) a0 a1 a2 a3 a4 a5 a6 a7 = fun _ => 1#1) :
    (∀ i, ∃ y : ℝ, a0 i = (y : EReal)) ∧ (∀ i, ∃ y : ℝ, a1 i = (y : EReal)) ∧ ∀ i, ∃ y : ℝ, a2 i = (y : EReal) := by
  have h0 := congrFun h ValueIdx.ix0
  dsimp only [fn] at h0
  obtain ⟨h01, h2⟩ := IntOp.andi_eq_one.mp h0
  obtain ⟨h0, h1⟩ := IntOp.andi_eq_one.mp h01
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i)⟩

end Cert.Finite
-- ==== Proof.Value.Claim.lean ====
module

public import proofs.«01_k».proof.Proof.Value.Agree
public import proofs.«01_k».proof.Proof.Value.Finite

/-! The value claim: from arguments whose input, query weights and key weights are real numbers, the kernel
    and the reference end with one result. -/

@[expose] public section

set_option maxRecDepth 16384

noncomputable section

namespace Cert.KernelIdeal.Value

open Cert.KernelIdeal.Gen Cert.KernelIdeal.Run Cert.Maths
open Idealize.ShloMosaic Idealize.ShloMosaic.TcCoe Idealize.ShloMosaic.Tactic Idealize.SL.Sem

variable (m : (ℓ : Loc nD τ sig) → Buf (Elt Ideal) ℓ) (ρ : Dev nD → PrngReg)

theorem W2_v27 (c : Dev nD) : W2 m ρ c (Proc.devRef .tc main_v27)
    = qkvOf (tX (W0 m ρ c)) (m ((c : Thread nD τ).loc main_arg1)) (m ((c : Thread nD τ).loc main_arg2)) (m ((c : Thread nD τ).loc main_arg3))
        (tC (W0 m ρ c)) (tS (W0 m ρ c)) := by
  have h := (W2_arr m ρ c 6).trans (final0 (V1 m ρ) c)
  have h1 : V1 m ρ c main_arg1 = m ((c : Thread nD τ).loc main_arg1) := W1_args m ρ c main_arg1 (by decide)
  have h2 : V1 m ρ c main_arg2 = m ((c : Thread nD τ).loc main_arg2) := W1_args m ρ c main_arg2 (by decide)
  have h3 : V1 m ρ c main_arg3 = m ((c : Thread nD τ).loc main_arg3) := W1_args m ρ c main_arg3 (by decide)
  rw [h1, h2, h3] at h
  exact h

theorem W3_v28 (c : Dev nD) : W3 m ρ c (Proc.devRef .tc main_v28) = aggOf (W2 m ρ c (Proc.devRef .tc main_v27)) :=
  (W3_arr m ρ c 3).trans (final1 (V2 m ρ) c)

theorem W3_keep (c : Dev nD) (r : Ref sig .tc) (h1 : ∀ w : Fin cfg1.W, Pipeline.arrRef spec1 w = r → (cfg1.win w).isOut = false)
    (h0 : ∀ w : Fin cfg0.W, Pipeline.arrRef spec0 w = r → (cfg0.win w).isOut = false) :
    W3 m ρ c (Proc.devRef .tc r) = W1 m ρ c (Proc.devRef .tc r) :=
  (W3_of m ρ c r h1).trans (W2_of m ρ c r h0)

theorem W4_v29 (c : Dev nD) : W4 m ρ c (Proc.devRef .tc main_v29)
    = outOf (W3 m ρ c (Proc.devRef .tc main_v28)) (m ((c : Thread nD τ).loc main_arg5)) (m ((c : Thread nD τ).loc main_arg6))
        (m ((c : Thread nD τ).loc main_arg4)) (tX (W0 m ρ c)) (tE (W0 m ρ c)) := by
  have h := (W4_arr m ρ c 6).trans (final2 (V3 m ρ) c)
  have h4 : V3 m ρ c main_arg4 = m ((c : Thread nD τ).loc main_arg4) := W3_args m ρ c main_arg4 (by decide)
  have h5 : V3 m ρ c main_arg5 = m ((c : Thread nD τ).loc main_arg5) := W3_args m ρ c main_arg5 (by decide)
  have h6 : V3 m ρ c main_arg6 = m ((c : Thread nD τ).loc main_arg6) := W3_args m ρ c main_arg6 (by decide)
  have h0 : V3 m ρ c main_v0 = V1 m ρ c main_v0 := W3_keep m ρ c main_v0 (by decide) (by decide)
  have h7 : V3 m ρ c main_v26 = V1 m ρ c main_v26 := W3_keep m ρ c main_v26 (by decide) (by decide)
  rw [h4, h5, h6, h0, h7] at h
  exact h

theorem W5_v30 (V : Valuation τ sig (Elt Ideal)) (r e : Fin 2048) :
    (StableHlo.after hostOps3 V (Proc.devRef .tc main_v30) : FVec Ideal S1x2048x2048 .f32) (ix3 0 r e)
      = (V (Proc.devRef .tc main_v29) : FVec Ideal S2048x2048 .f32) (ix2 r e) := by
  after_reads_at

/-- The kernel's result from its arguments. -/
theorem result_at (c : Dev nD) (r e : Fin 2048) :
    (W5 m ρ c (Proc.devRef .tc main_v30) : FVec Ideal S1x2048x2048 .f32) (ix3 0 r e)
      = outOf (aggOf (qkvOf (tX (W0 m ρ c)) (m ((c : Thread nD τ).loc main_arg1)) (m ((c : Thread nD τ).loc main_arg2)) (m ((c : Thread nD τ).loc main_arg3))
          (tC (W0 m ρ c)) (tS (W0 m ρ c)))) (m ((c : Thread nD τ).loc main_arg5)) (m ((c : Thread nD τ).loc main_arg6))
        (m ((c : Thread nD τ).loc main_arg4)) (tX (W0 m ρ c)) (tE (W0 m ρ c)) (ix2 r e) := by
  refine (W5_v30 (W4 m ρ c) r e).trans ?_
  rw [W4_v29, W3_v28, W2_v27]

end Cert.KernelIdeal.Value

namespace Cert.Parts

open Idealize.ShloMosaic Idealize.ShloMosaic.TcCoe Idealize.SL.Sem Cert.KernelIdeal.Value

/-- The kernel's result is the reference's, on one device. -/
theorem result_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal_finite_scores m) (c : Dev Cert.KernelIdeal.nD)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.AtIndex.refOut (StableHlo.launchContents m' c)
      = (Cert.KernelIdeal.Run.W5 m g c (Proc.devRef .tc Cert.KernelIdeal.main_v30) : FVec Ideal Cert.KernelIdeal.S1x2048x2048 .f32) := by
  obtain ⟨a0, a1, a2, a3, a4, a5, a6, a7⟩ := ha
  obtain ⟨f0, f1, f2⟩ := Cert.Finite.decode _ _ _ _ _ _ _ _ (hpre c)
  suffices h : ∀ r e : Fin 2048, Cert.ReferenceIdeal.AtIndex.refOut (StableHlo.launchContents m' c) (ix3 0 r e)
      = (Cert.KernelIdeal.Run.W5 m g c (Proc.devRef .tc Cert.KernelIdeal.main_v30) : FVec Ideal Cert.KernelIdeal.S1x2048x2048 .f32) (ix3 0 r e) by
    funext i
    have hi : i = ix3 0 (i 1) (i 2) := by
      funext n
      match n with
      | ⟨0, _⟩ => exact Subsingleton.elim (α := Fin 1) _ _
      | ⟨1, _⟩ => rfl
      | ⟨2, _⟩ => rfl
    rw [hi]
    exact h _ _
  intro r e
  refine Eq.trans ?_ (result_at m g c r e).symm
  refine (out_eq (StableHlo.launchContents m' c) _ _ _ _ _ _ _ _ _ _ (fun r x => ?_) (fun i => ?_) (fun i => ?_) (fun i => ?_)
    (fun i => ?_) (fun i => ?_) (fun i => ?_) ?_ (fun r d => ?_) (fun r d => ?_) (fun r d => ?_) (fun r d => ?_) (fun r d => ?_) (fun r d => ?_)
    (fun i => ?_) (fun i => ?_) (fun i => ?_) r e).symm
  · exact (tX_at _ r x).trans (congrFun a0 _).symm
  · exact (congrFun a1 i).symm
  · exact (congrFun a2 i).symm
  · exact (congrFun a3 i).symm
  · exact (congrFun a4 i).symm
  · exact (congrFun a5 i).symm
  · exact (congrFun a6 i).symm
  · exact (tE_at _).trans (congrFun a7 _).symm
  · exact tC_0 _ r d
  · exact tC_1 _ r d
  · exact tC_2 _ r d
  · exact tS_0 _ r d
  · exact tS_1 _ r d
  · exact tS_2 _ r d
  · obtain ⟨y, hy⟩ := f0 i; exact ⟨y, (congrFun a0 i).trans hy⟩
  · obtain ⟨y, hy⟩ := f1 i; exact ⟨y, (congrFun a1 i).trans hy⟩
  · obtain ⟨y, hy⟩ := f2 i; exact ⟨y, (congrFun a2 i).trans hy⟩

theorem algebraic : Cert.algebraic_KernelIdeal_ReferenceIdeal_pre_finite_scores := by
  intro m g m' g' hpre hagree
  refine ⟨fun c => Cert.KernelIdeal.Run.W5 m g c (Proc.devRef .tc Cert.KernelIdeal.main_v30), ?_, ?_⟩
  · refine (θ_run Cert.KernelIdeal.defs _ _).mono (fun r h c => ⟨?_, Cert.KernelIdeal.Run.args_of m g _ (h.1 c)⟩) (Cert.KernelIdeal.Run.run_all m g)
    exact h.1 c _ (Cert.KernelIdeal.Run.mem_uc Cert.KernelIdeal.main_v30 (by decide))
  · refine (θ_run Cert.ReferenceIdeal.defs _ _).mono (fun _ h c => ⟨(h c).1.trans ?_, (h c).2⟩) (Cert.ReferenceIdeal.Value.run (F := Ideal) m' g')
    exact result_eq m g m' hpre c (hagree c)

end Cert.Parts
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_scores
public import proofs.«01_k».proof.Proof.Gen.ReferenceIdeal.Run
public import proofs.«01_k».proof.Proof.Word.Whole
public import proofs.«01_k».proof.Proof.Ideal.Whole
public import proofs.«01_k».proof.Proof.Ideal.Claims
public import proofs.«01_k».proof.Proof.Value.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_scores.Gen.facts,
  Parts.frame_p, Parts.frame_pi, Parts.frame_pi_pre, Parts.frame_ri, Parts.frame_ri_pre, Parts.preserves, Parts.algebraic⟩

end Cert.Proof

end
